-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x16384x3072 : Shape := ⟨3, ![5, 16384, 3072]⟩
abbrev S5x16384x24 : Shape := ⟨3, ![5, 16384, 24]⟩
abbrev S5x16384x1024 : Shape := ⟨3, ![5, 16384, 1024]⟩
abbrev S5x128x1024 : Shape := ⟨3, ![5, 128, 1024]⟩
abbrev S3072x1024 : Shape := ⟨2, ![3072, 1024]⟩
abbrev S81920x3072 : Shape := ⟨2, ![81920, 3072]⟩
abbrev S81920x1024 : Shape := ⟨2, ![81920, 1024]⟩
abbrev S5x128x3072 : Shape := ⟨3, ![5, 128, 3072]⟩
abbrev S1024x3072 : Shape := ⟨2, ![1024, 3072]⟩
abbrev S1x1024x24 : Shape := ⟨3, ![1, 1024, 24]⟩
abbrev S1024x1024 : Shape := ⟨2, ![1024, 1024]⟩
abbrev S1x8x1024 : Shape := ⟨3, ![1, 8, 1024]⟩
abbrev S1x8x3072 : Shape := ⟨3, ![1, 8, 3072]⟩
abbrev S3072x512 : Shape := ⟨2, ![3072, 512]⟩
abbrev S512x1024 : Shape := ⟨2, ![512, 1024]⟩
abbrev S_ : Shape := ⟨0, ![]⟩
abbrev S1x1x1024 : Shape := ⟨3, ![1, 1, 1024]⟩
abbrev S1x1024 : Shape := ⟨2, ![1, 1024]⟩
abbrev S128x1024 : Shape := ⟨2, ![128, 1024]⟩
abbrev S1x128x24 : Shape := ⟨3, ![1, 128, 24]⟩
abbrev S128x24 : Shape := ⟨2, ![128, 24]⟩
abbrev S128x1 : Shape := ⟨2, ![128, 1]⟩
abbrev S128x128 : Shape := ⟨2, ![128, 128]⟩
abbrev S128 : Shape := ⟨1, ![128]⟩
abbrev S1x128 : Shape := ⟨2, ![1, 128]⟩
abbrev S256x128 : Shape := ⟨2, ![256, 128]⟩
abbrev S1x1x128 : Shape := ⟨3, ![1, 1, 128]⟩
abbrev S256x1024 : Shape := ⟨2, ![256, 1024]⟩
abbrev S256x512 : Shape := ⟨2, ![256, 512]⟩

abbrev nBuf : Space → Nat
  | .hbm => 10
  | .vmem => 17
  | .smem => 0
  | _ => 0

abbrev bufTy : (tb : Table) → Fin (tcTables nBuf tb) → BufTy
  | .hbm, ⟨0, _⟩ => ⟨S5x16384x3072, .fp8e4m3⟩
  | .hbm, ⟨1, _⟩ => ⟨S5x16384x24, .f32⟩
  | .hbm, ⟨2, _⟩ => ⟨S5x16384x1024, .fp8e5m2⟩
  | .hbm, ⟨3, _⟩ => ⟨S5x128x1024, .f32⟩
  | .hbm, ⟨4, _⟩ => ⟨S3072x1024, .f32⟩
  | .hbm, ⟨5, _⟩ => ⟨S81920x3072, .fp8e4m3⟩
  | .hbm, ⟨6, _⟩ => ⟨S81920x1024, .fp8e5m2⟩
  | .hbm, ⟨7, _⟩ => ⟨S3072x1024, .f32⟩
  | .hbm, ⟨8, _⟩ => ⟨S81920x3072, .fp8e4m3⟩
  | .hbm, ⟨9, _⟩ => ⟨S5x128x3072, .f32⟩
  | .local _ .vmem, ⟨0, _⟩ => ⟨S1024x3072, .fp8e4m3⟩
  | .local _ .vmem, ⟨1, _⟩ => ⟨S1024x3072, .fp8e4m3⟩
  | .local _ .vmem, ⟨2, _⟩ => ⟨S1x1024x24, .f32⟩
  | .local _ .vmem, ⟨3, _⟩ => ⟨S1x1024x24, .f32⟩
  | .local _ .vmem, ⟨4, _⟩ => ⟨S1024x1024, .fp8e5m2⟩
  | .local _ .vmem, ⟨5, _⟩ => ⟨S1024x1024, .fp8e5m2⟩
  | .local _ .vmem, ⟨6, _⟩ => ⟨S1x8x1024, .f32⟩
  | .local _ .vmem, ⟨7, _⟩ => ⟨S1x8x1024, .f32⟩
  | .local _ .vmem, ⟨8, _⟩ => ⟨S3072x1024, .f32⟩
  | .local _ .vmem, ⟨9, _⟩ => ⟨S1024x3072, .fp8e4m3⟩
  | .local _ .vmem, ⟨10, _⟩ => ⟨S1024x3072, .fp8e4m3⟩
  | .local _ .vmem, ⟨11, _⟩ => ⟨S1x8x3072, .f32⟩
  | .local _ .vmem, ⟨12, _⟩ => ⟨S1x8x3072, .f32⟩
  | .local _ .vmem, ⟨13, _⟩ => ⟨S3072x512, .bf16⟩
  | .local _ .vmem, ⟨14, _⟩ => ⟨S3072x512, .bf16⟩
  | .local _ .vmem, ⟨15, _⟩ => ⟨S512x1024, .bf16⟩
  | .local _ .vmem, ⟨16, _⟩ => ⟨S512x1024, .bf16⟩
  | _, _ => ⟨S5x16384x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![80], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c79_i32 : BitVec 32 := 79#32
  let v6 : BitVec 1 := Scalar.cmpi .eq arg0 c79_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1024x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3072x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x3072 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S5x16384x3072 : Shape := ⟨3, ![5, 16384, 3072]⟩
abbrev S5x16384x24 : Shape := ⟨3, ![5, 16384, 24]⟩
abbrev S5x16384x1024 : Shape := ⟨3, ![5, 16384, 1024]⟩
abbrev S5x128x1024 : Shape := ⟨3, ![5, 128, 1024]⟩
abbrev S3072x1024 : Shape := ⟨2, ![3072, 1024]⟩
abbrev S81920x3072 : Shape := ⟨2, ![81920, 3072]⟩
abbrev S5x128x3072 : Shape := ⟨3, ![5, 128, 3072]⟩
abbrev S5x16384x24x128 : Shape := ⟨4, ![5, 16384, 24, 128]⟩
abbrev S5x16384x24x1 : Shape := ⟨4, ![5, 16384, 24, 1]⟩
abbrev S5x128x128x3072 : Shape := ⟨4, ![5, 128, 128, 3072]⟩
abbrev S254x5x128x3072 : Shape := ⟨4, ![254, 5, 128, 3072]⟩
abbrev S1x5x128x3072 : Shape := ⟨4, ![1, 5, 128, 3072]⟩
abbrev S5x128x1x3072 : Shape := ⟨4, ![5, 128, 1, 3072]⟩
abbrev S5x128x128x1024 : Shape := ⟨4, ![5, 128, 128, 1024]⟩
abbrev S5x128x1x1024 : Shape := ⟨4, ![5, 128, 1, 1024]⟩
abbrev S81920x1024 : Shape := ⟨2, ![81920, 1024]⟩

abbrev nBuf : Space → Nat
  | .hbm => 8
  | .vmem => 8
  | .smem => 0
  | _ => 0

abbrev bufTy : (tb : Table) → Fin (tcTables nBuf tb) → BufTy
  | .hbm, ⟨0, _⟩ => ⟨S5x16384x3072, .fp8e4m3⟩
  | .hbm, ⟨1, _⟩ => ⟨S5x16384x24, .f32⟩
  | .hbm, ⟨2, _⟩ => ⟨S5x16384x1024, .fp8e5m2⟩
  | .hbm, ⟨3, _⟩ => ⟨S5x128x1024, .f32⟩
  | .hbm, ⟨4, _⟩ => ⟨S3072x1024, .f32⟩
  | .hbm, ⟨5, _⟩ => ⟨S3072x1024, .f32⟩
  | .hbm, ⟨6, _⟩ => ⟨S81920x3072, .fp8e4m3⟩
  | .hbm, ⟨7, _⟩ => ⟨S5x128x3072, .f32⟩
  | .local _ .vmem, ⟨0, _⟩ => ⟨S5x16384x3072, .fp8e4m3⟩
  | .local _ .vmem, ⟨1, _⟩ => ⟨S5x16384x24, .f32⟩
  | .local _ .vmem, ⟨2, _⟩ => ⟨S5x16384x1024, .fp8e5m2⟩
  | .local _ .vmem, ⟨3, _⟩ => ⟨S5x128x1024, .f32⟩
  | .local _ .vmem, ⟨4, _⟩ => ⟨S3072x1024, .f32⟩
  | .local _ .vmem, ⟨5, _⟩ => ⟨S3072x1024, .f32⟩
  | .local _ .vmem, ⟨6, _⟩ => ⟨S81920x3072, .fp8e4m3⟩
  | .local _ .vmem, ⟨7, _⟩ => ⟨S5x128x3072, .f32⟩
  | _, _ => ⟨S5x16384x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S5x16384x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x16384x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x16384x1024 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S81920x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x128x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Cmds.lean ====
/- The kernel's body as a list of three kinds of steps.

   One grid point works on 1024 tokens, as two halves of 512, each of four blocks of 128 tokens and twelve chunks
   of 256 columns of `x`. A step dequantises one block of `dy` into a buffer, or requantises one chunk of one block
   of `x` (two tiles of 128 columns: codes, scales, and the transposed tile for the product), or adds one chunk's
   product into the weight gradient. `denote` runs a list of steps; `Body.lean` shows the printed body runs such
   lists, so that what is proved of one step, at symbolic coordinates, is proved of the whole body. -/
module

public import proofs.«01_k».proof.Proof.Gen.Kernel.Frame

@[expose] public section

set_option maxRecDepth 16384

noncomputable section

namespace Cert.Kernel.Steps

open Idealize.ShloMosaic Idealize.SL.Sem
open Cert.Kernel Cert.Kernel.Gen

variable {F : FTy → Type} [FloatOps F]

/-- The first of the two halves' block of 128 tokens: 0 or 4. -/
abbrev half (p : Bool) : ℕ := match p with | false => 0 | true => 4

theorem half_le (p : Bool) : half p = 0 ∨ half p = 4 := by cases p <;> simp [half]

/-! ## Offsets inside their buffers -/

theorem in2 {s : Shape} {o₀ o₁ : ℕ} {size : Fin 2 → ℕ} {N : Fin 2 → ℕ} (h₀ : o₀ + size 0 ≤ N 0) (h₁ : o₁ + size 1 ≤ N 1) :
    ∀ a, (![o₀, o₁] : Fin 2 → ℕ) a + size a ≤ N a := Fin.forall_fin_two.mpr ⟨h₀, h₁⟩

theorem in3 {o₀ o₁ o₂ : ℕ} {size : Fin 3 → ℕ} {N : Fin 3 → ℕ} (h₀ : o₀ + size 0 ≤ N 0) (h₁ : o₁ + size 1 ≤ N 1) (h₂ : o₂ + size 2 ≤ N 2) :
    ∀ a, (![o₀, o₁, o₂] : Fin 3 → ℕ) a + size a ≤ N a := fun a => by
  match a with
  | 0 => exact h₀
  | 1 => exact h₁
  | 2 => exact h₂

theorem inDys (p : Bool) (b : Fin 4) : ∀ a, (![0, half p + b.val, 0] : Fin 3 → ℕ) a + S1x1x1024.size a ≤ S1x8x1024.size a := by
  have := half_le p; exact in3 (by decide) (show half p + b.val + 1 ≤ 8 by omega) (by decide)
theorem inDy (p : Bool) (b : Fin 4) : ∀ a, (![(half p + b.val) * 128, 0] : Fin 2 → ℕ) a + S128x1024.size a ≤ S1024x1024.size a := by
  have := half_le p; exact in2 (s := S1024x1024) (show (half p + b.val) * 128 + 128 ≤ 1024 by omega) (by decide)
theorem inY (b : Fin 4) : ∀ a, (![b.val * 128, 0] : Fin 2 → ℕ) a + S128x1024.size a ≤ S512x1024.size a :=
  in2 (s := S512x1024) (show b.val * 128 + 128 ≤ 512 by omega) (by decide)
theorem inRs (p : Bool) (b : Fin 4) : ∀ a, (![0, (half p + b.val) * 128, 0] : Fin 3 → ℕ) a + S1x128x24.size a ≤ S1x1024x24.size a := by
  have := half_le p; exact in3 (by decide) (show (half p + b.val) * 128 + 128 ≤ 1024 by omega) (by decide)
theorem inCodes (p : Bool) (b : Fin 4) (g : Fin 24) :
    ∀ a, (![(half p + b.val) * 128, g.val * 128] : Fin 2 → ℕ) a + S128x128.size a ≤ S1024x3072.size a := by
  have := half_le p
  exact in2 (s := S1024x3072) (show (half p + b.val) * 128 + 128 ≤ 1024 by omega) (show g.val * 128 + 128 ≤ 3072 by omega)
theorem inXs (p : Bool) (b : Fin 4) (g : Fin 24) :
    ∀ a, (![0, half p + b.val, g.val * 128] : Fin 3 → ℕ) a + S1x1x128.size a ≤ S1x8x3072.size a := by
  have := half_le p
  exact in3 (by decide) (show half p + b.val + 1 ≤ 8 by omega) (show g.val * 128 + 128 ≤ 3072 by omega)
theorem inX (b : Fin 4) (g : Fin 24) : ∀ a, (![g.val * 128, b.val * 128] : Fin 2 → ℕ) a + S128x128.size a ≤ S3072x512.size a :=
  in2 (s := S3072x512) (show g.val * 128 + 128 ≤ 3072 by omega) (show b.val * 128 + 128 ≤ 512 by omega)
theorem inXc (c : Fin 12) : ∀ a, (![c.val * 256, 0] : Fin 2 → ℕ) a + S256x512.size a ≤ S3072x512.size a :=
  in2 (s := S3072x512) (show c.val * 256 + 256 ≤ 3072 by omega) (by decide)
theorem inOut (c : Fin 12) : ∀ a, (![c.val * 256, 0] : Fin 2 → ℕ) a + S256x1024.size a ≤ S3072x1024.size a :=
  in2 (s := S3072x1024) (show c.val * 256 + 256 ≤ 3072 by omega) (by decide)
theorem inSlice (g : Fin 24) : S128x24.Slices ![0, g.val] S128x1 := by revert g; decide

theorem packedY (b : Fin 4) : (Rect.unit (s := S512x1024) ![b.val * 128, 0] S128x1024.size (inY b)).PackedRows (EltTy.packing .bf16) :=
  .inr ⟨Nat.le_refl 2, rfl, .inl ⟨(Dvd.intro (b.val * 64) (by show 2 * (b.val * 64) = b.val * 128; omega)), (show 2 ∣ 128 by decide)⟩⟩
theorem packedCodes (p : Bool) (b : Fin 4) (g : Fin 24) :
    (Rect.unit (s := S1024x3072) ![(half p + b.val) * 128, g.val * 128] S128x128.size (inCodes p b g)).PackedRows (EltTy.packing .fp8e4m3) :=
  .inr ⟨Nat.le_refl 2, rfl, .inl ⟨(Dvd.intro ((half p + b.val) * 32) (by show 4 * ((half p + b.val) * 32) = (half p + b.val) * 128; omega)), (show 4 ∣ 128 by decide)⟩⟩
theorem packedX (b : Fin 4) (g : Fin 24) :
    (Rect.unit (s := S3072x512) ![g.val * 128, b.val * 128] S128x128.size (inX b g)).PackedRows (EltTy.packing .bf16) :=
  .inr ⟨Nat.le_refl 2, rfl, .inl ⟨(Dvd.intro (g.val * 64) (by show 2 * (g.val * 64) = g.val * 128; omega)), (show 2 ∣ 128 by decide)⟩⟩

/-! ## What a step computes of what it loads -/

/-- A block of `dy` times its column scales. -/
def deqVal (v3 : Vec F S128x1024 .fp8e5m2) (v4 : Vec F S1x1x1024 .f32) : FVec F S128x1024 .bf16 :=
  shapeCast S128x1024
    (mulf (extf .bf16 (shapeCast S128x1024 v3 shapeCasts_S128x1024_S128x1024) bitsLt_fp8e5m2_bf16)
      (broadcastTo S128x1024 (truncf .bf16 (shapeCast S1x1024 v4 shapeCasts_S1x1x1024_S1x1024) bitsLt_bf16_f32) broadcasts_S1x1024_S128x1024))
    shapeCasts_S128x1024_S128x1024

/-- The row scales of a block of tokens, one column per tile. -/
def rowVal (v2 : Vec F S1x128x24 .f32) : FVec F S128x24 .bf16 :=
  truncf .bf16 (shapeCast S128x24 v2 shapeCasts_S1x128x24_S128x24) bitsLt_bf16_f32

/-- A tile of `x` times its row scales. -/
def xVal (g : Fin 24) (v55 : FVec F S128x24 .bf16) (v1 : Vec F S128x128 .fp8e4m3) : FVec F S128x128 .bf16 :=
  mulf (extf .bf16 (shapeCast S128x128 v1 shapeCasts_S128x128_S128x128) bitsLt_fp8e4m3_bf16)
    (broadcastTo S128x128 (extractStridedSlice S128x1 ![0, g.val] v55 (inSlice g)) broadcasts_S128x1_S128x128)

/-- The largest magnitude of each column of a tile, over 448. -/
def topVal (x : FVec F S128x128 .bf16) : FVec F S1x128 .f32 :=
  mulf (extf .f32 (shapeCast S1x128 (multiReduction .maximumf [0] S128 (absf x) 0xFF80#16 reduces_S128x128_S128 (.inr rfl) rfl) shapeCasts_S128_S1x128) bitsLt_bf16_f32)
    (broadcast S1x128 (Scalar.ofBits .f32 0x3B124925#32))

/-- The exponent field of each entry: the largest `k` whose power of two is not above it. -/
def fieldVal (t : FVec F S1x128 .f32) : IVec S1x128 32 :=
  shapeCast S1x128
    (multiReductionI .maxsi [0] S128
      (select
        (cmpf .olt (broadcastTo S256x128 t broadcasts_S1x128_S256x128)
          (bitcastToFloat .f32 (shli (iota .tc S256x128 32 [0] iota_S256x128_d0_w32) (broadcast S256x128 23#32))))
        (broadcast S256x128 0#32) (iota .tc S256x128 32 [0] iota_S256x128_d0_w32))
      2147483648#32 reduces_S256x128_S128 rfl)
    shapeCasts_S128_S1x128

/-- The exponent of a column's scale: one more than its top's, and none for a zero field. -/
def expVal (k : IVec S1x128 32) : IVec S1x128 32 :=
  select (cmpi .eq k (broadcast S1x128 0#32)) (broadcast S1x128 0#32) (subi k (broadcast S1x128 126#32))

/-- The scale `2^e`. -/
def scaleVal (e : IVec S1x128 32) : FVec F S1x128 .f32 :=
  bitcastToFloat .f32 (shli (addi e (broadcast S1x128 127#32)) (broadcast S1x128 23#32))

/-- Its inverse. -/
def invVal (e : IVec S1x128 32) : FVec F S1x128 .f32 :=
  bitcastToFloat .f32 (shli (maxsi (subi (broadcast S1x128 127#32) e) (broadcast S1x128 0#32)) (broadcast S1x128 23#32))

/-- The codes of a tile under an inverse scale. -/
def codeVal (x : FVec F S128x128 .bf16) (inv : FVec F S1x128 .f32) : FVec F S128x128 .fp8e4m3 :=
  truncf .fp8e4m3
    (minimumf (broadcast S128x128 (Scalar.truncf .bf16 bitsLt_bf16_f32 (Scalar.ofBits .f32 0x43E00000#32)))
      (maximumf (broadcast S128x128 (Scalar.truncf .bf16 bitsLt_bf16_f32 (Scalar.ofBits .f32 0xC3E00000#32)))
        (mulf x (broadcastTo S128x128 (truncf .bf16 inv bitsLt_bf16_f32) broadcasts_S1x128_S128x128))))
    bitsLt_fp8e4m3_bf16

/-- The dequantised tile, transposed for the product. -/
def backVal (codes : FVec F S128x128 .fp8e4m3) (scale : FVec F S1x128 .f32) : FVec F S128x128 .bf16 :=
  shapeCast S128x128
    (transpose S128x128 [1, 0]
      (mulf (extf .bf16 codes bitsLt_fp8e4m3_bf16) (broadcastTo S128x128 (truncf .bf16 scale bitsLt_bf16_f32) broadcasts_S1x128_S128x128))
      transposes_S128x128_p1_0_S128x128)
    shapeCasts_S128x128_S128x128

/-- One chunk of the weight gradient with a slab's product added. -/
def dotVal (v6 : Vec F S256x1024 .f32) (vx : FVec F S256x512 .bf16) (vy : FVec F S512x1024 .bf16) : FVec F S256x1024 .f32 :=
  addf (shapeCast S256x1024 v6 shapeCasts_S256x1024_S256x1024)
    (matmul (F := F) dot_S256x512_S512x1024_S256x1024_1_0_0_1_n_n none vx vy (constant S256x1024 .f32 0x00000000#32))

/-! ## The steps -/

/-- The buffers one call of the body works on, with the evidence its stores cite. -/
structure Bufs where
  codes : Memref sig .tc .vmem S1024x3072 .fp8e4m3
  rs : Memref sig .tc .vmem S1x1024x24 .f32
  dy : Memref sig .tc .vmem S1024x1024 .fp8e5m2
  dys : Memref sig .tc .vmem S1x8x1024 .f32
  out : Memref sig .tc .vmem S3072x1024 .f32
  xt : Memref sig .tc .vmem S1024x3072 .fp8e4m3
  hxt : xt.IsWhole
  xs : Memref sig .tc .vmem S1x8x3072 .f32
  xa : Memref sig .tc .vmem S3072x512 .bf16
  hxa : xa.IsWhole
  xb : Memref sig .tc .vmem S3072x512 .bf16
  hxb : xb.IsWhole
  ya : Memref sig .tc .vmem S512x1024 .bf16
  hya : ya.IsWhole
  yb : Memref sig .tc .vmem S512x1024 .bf16
  hyb : yb.IsWhole

/-- A program of the body. -/
abbrev P (F : FTy → Type) [FloatOps F] := Prog (TpuEff nD τ sig (Elt F) Λ₀ .tc) PUnit

/-- Dequantise block `b` of half `p` of `dy` into `y`, then `K`. -/
def deqK (dy : Memref sig .tc .vmem S1024x1024 .fp8e5m2) (dys : Memref sig .tc .vmem S1x8x1024 .f32)
    (y : Memref sig .tc .vmem S512x1024 .bf16) (hy : y.IsWhole) (p : Bool) (b : Fin 4) (K : PUnit → P F) : P F :=
  .op (.load dys (Rect.unit (s := S1x8x1024) ![0, half p + b.val, 0] S1x1x1024.size (inDys p b)).toLoadRect (View.loadsAt_vmem h_S1x1x1024)) fun v4 =>
  .op (.load dy (Rect.unit (s := S1024x1024) ![(half p + b.val) * 128, 0] S128x1024.size (inDy p b)).toLoadRect (View.loadsAt_vmem h_S128x1024)) fun v3 =>
  .op (.load y (Rect.unit (s := S512x1024) ![b.val * 128, 0] S128x1024.size (inY b)).toLoadRect (View.loadsAt_vmem h_S128x1024)) fun _ =>
  .op (.store y (Rect.unit (s := S512x1024) ![b.val * 128, 0] S128x1024.size (inY b)) (deqVal v3 v4) Finset.univ
    (View.stores_vmem h_S128x1024 (hy.storeExact_slice rfl _ (packedY b)) (fun _ => rfl)) (.inl rfl)) K

/-- Requantise tile `g` of block `b` of half `p` of `x`, given the block's row scales, then `K`. -/
def tileK (codes : Memref sig .tc .vmem S1024x3072 .fp8e4m3) (xt : Memref sig .tc .vmem S1024x3072 .fp8e4m3) (hxt : xt.IsWhole)
    (xs : Memref sig .tc .vmem S1x8x3072 .f32) (x : Memref sig .tc .vmem S3072x512 .bf16) (hx : x.IsWhole)
    (p : Bool) (b : Fin 4) (g : Fin 24) (v55 : FVec F S128x24 .bf16) (K : PUnit → P F) : P F :=
  .op (.load codes (Rect.unit (s := S1024x3072) ![(half p + b.val) * 128, g.val * 128] S128x128.size (inCodes p b g)).toLoadRect (View.loadsAt_vmem h_S128x128)) fun v1 =>
  .op (.load xt (Rect.unit (s := S1024x3072) ![(half p + b.val) * 128, g.val * 128] S128x128.size (inCodes p b g)).toLoadRect (View.loadsAt_vmem h_S128x128)) fun _ =>
  .op (.store xt (Rect.unit (s := S1024x3072) ![(half p + b.val) * 128, g.val * 128] S128x128.size (inCodes p b g))
    (codeVal (xVal g v55 v1) (invVal (expVal (fieldVal (topVal (xVal g v55 v1)))))) Finset.univ
    (View.stores_vmem h_S128x128 (hxt.storeExact_slice rfl _ (packedCodes p b g)) (fun _ => rfl)) (.inl rfl)) fun _ =>
  .op (.load xs (Rect.unit (s := S1x8x3072) ![0, half p + b.val, g.val * 128] S1x1x128.size (inXs p b g)).toLoadRect (View.loadsAt_vmem h_S1x1x128)) fun _ =>
  .op (.store xs (Rect.unit (s := S1x8x3072) ![0, half p + b.val, g.val * 128] S1x1x128.size (inXs p b g))
    (shapeCast S1x1x128 (scaleVal (expVal (fieldVal (topVal (xVal g v55 v1))))) shapeCasts_S1x128_S1x1x128) Finset.univ
    (View.stores_vmem_bits_univ h_S1x1x128 rfl) (.inl rfl)) fun _ =>
  .op (.load x (Rect.unit (s := S3072x512) ![g.val * 128, b.val * 128] S128x128.size (inX b g)).toLoadRect (View.loadsAt_vmem h_S128x128)) fun _ =>
  .op (.store x (Rect.unit (s := S3072x512) ![g.val * 128, b.val * 128] S128x128.size (inX b g))
    (backVal (codeVal (xVal g v55 v1) (invVal (expVal (fieldVal (topVal (xVal g v55 v1)))))) (scaleVal (expVal (fieldVal (topVal (xVal g v55 v1)))))) Finset.univ
    (View.stores_vmem h_S128x128 (hx.storeExact_slice rfl _ (packedX b g)) (fun _ => rfl)) (.inl rfl)) K

/-- The two tiles of chunk `c`. -/
abbrev lo (c : Fin 12) : Fin 24 := ⟨c.val * 2, by omega⟩
abbrev hi (c : Fin 12) : Fin 24 := ⟨c.val * 2 + 1, by omega⟩

/-- Requantise chunk `c` of block `b` of half `p` of `x`, then `K`. -/
def quantK (codes : Memref sig .tc .vmem S1024x3072 .fp8e4m3) (rs : Memref sig .tc .vmem S1x1024x24 .f32)
    (xt : Memref sig .tc .vmem S1024x3072 .fp8e4m3) (hxt : xt.IsWhole)
    (xs : Memref sig .tc .vmem S1x8x3072 .f32) (x : Memref sig .tc .vmem S3072x512 .bf16) (hx : x.IsWhole)
    (p : Bool) (c : Fin 12) (b : Fin 4) (K : PUnit → P F) : P F :=
  .op (.load rs (Rect.unit (s := S1x1024x24) ![0, (half p + b.val) * 128, 0] S1x128x24.size (inRs p b)).toLoadRect (View.loadsAt_vmem h_S1x128x24)) fun v2 =>
  tileK codes xt hxt xs x hx p b (lo c) (rowVal v2) fun _ =>
  tileK codes xt hxt xs x hx p b (hi c) (rowVal v2) K

/-- Add chunk `c` of a slab's product into the gradient, then `K`. -/
def dotK (out : Memref sig .tc .vmem S3072x1024 .f32) (x : Memref sig .tc .vmem S3072x512 .bf16) (y : Memref sig .tc .vmem S512x1024 .bf16)
    (c : Fin 12) (K : PUnit → P F) : P F :=
  .op (.load out (Rect.unit (s := S3072x1024) ![c.val * 256, 0] S256x1024.size (inOut c)).toLoadRect (View.loadsAt_vmem h_S256x1024)) fun v6 =>
  .op (.load x (Rect.unit (s := S3072x512) ![c.val * 256, 0] S256x512.size (inXc c)).toLoadRect (View.loadsAt_vmem h_S256x512)) fun vx =>
  .op (.load y (Rect.unit (s := S512x1024) ![0, 0] S512x1024.size inb_S512x1024_S512x1024_0_0).toLoadRect (View.loadsAt_vmem h_S512x1024)) fun vy =>
  .op (.load out (Rect.unit (s := S3072x1024) ![c.val * 256, 0] S256x1024.size (inOut c)).toLoadRect (View.loadsAt_vmem h_S256x1024)) fun _ =>
  .op (.store out (Rect.unit (s := S3072x1024) ![c.val * 256, 0] S256x1024.size (inOut c)) (dotVal v6 vx vy) Finset.univ
    (View.stores_vmem_bits_univ h_S256x1024 rfl) (.inl rfl)) K

/-- A step of the body: on half `p` (`false` the first), block `b`, chunk `c`. -/
inductive Cmd where
  | deq (p : Bool) (b : Fin 4)
  | quant (p : Bool) (c : Fin 12) (b : Fin 4)
  | dot (p : Bool) (c : Fin 12)

/-- A step, then `K`. -/
def cmdK (B : Bufs) (K : PUnit → P F) : Cmd → P F
  | .deq false b => deqK B.dy B.dys B.ya B.hya false b K
  | .deq true b => deqK B.dy B.dys B.yb B.hyb true b K
  | .quant false c b => quantK B.codes B.rs B.xt B.hxt B.xs B.xa B.hxa false c b K
  | .quant true c b => quantK B.codes B.rs B.xt B.hxt B.xs B.xb B.hxb true c b K
  | .dot false c => dotK B.out B.xa B.ya c K
  | .dot true c => dotK B.out B.xb B.yb c K

/-- The steps of a list in order, then `K`. -/
def denote (B : Bufs) : List Cmd → (PUnit → P F) → P F
  | [], K => K ⟨⟩
  | s :: L, K => cmdK B (fun _ => denote B L K) s

/-! ## The lists the body runs -/

/-- One list per chunk, in order. -/
def chunks (f : Fin 12 → List Cmd → List Cmd) (L : List Cmd) : List Cmd :=
  f ⟨0, by decide⟩ (f ⟨1, by decide⟩ (f ⟨2, by decide⟩ (f ⟨3, by decide⟩ (f ⟨4, by decide⟩ (f ⟨5, by decide⟩ (f ⟨6, by decide⟩ (f ⟨7, by decide⟩
    (f ⟨8, by decide⟩ (f ⟨9, by decide⟩ (f ⟨10, by decide⟩ (f ⟨11, by decide⟩ L)))))))))))

/-- The four blocks of `dy`. -/
def deqs (p : Bool) (L : List Cmd) : List Cmd :=
  .deq p ⟨0, by decide⟩ :: .deq p ⟨1, by decide⟩ :: .deq p ⟨2, by decide⟩ :: .deq p ⟨3, by decide⟩ :: L

/-- The four blocks of a chunk of `x`. -/
def quants (p : Bool) (c : Fin 12) (L : List Cmd) : List Cmd :=
  .quant p c ⟨0, by decide⟩ :: .quant p c ⟨1, by decide⟩ :: .quant p c ⟨2, by decide⟩ :: .quant p c ⟨3, by decide⟩ :: L

/-- A half requantised with no product beside it. -/
def alone (p : Bool) (L : List Cmd) : List Cmd := deqs p (chunks (quants p) L)
/-- A half requantised, the other half's buffers multiplied chunk by chunk beside it. -/
def both (p : Bool) (L : List Cmd) : List Cmd := deqs p (chunks (fun c L => quants p c (.dot (!p) c :: L)) L)
/-- A half's buffers multiplied. -/
def dots (p : Bool) (L : List Cmd) : List Cmd := chunks (fun c L => .dot p c :: L) L

/-! ## A step met at the head of a program -/

theorem denote_deq_false {B : Bufs} {b : Fin 4} {L : List Cmd} {K K' : PUnit → P F} (h : denote B L K = K' ⟨⟩) :
    denote B (.deq false b :: L) K = deqK B.dy B.dys B.ya B.hya false b K' :=
  congrArg (deqK B.dy B.dys B.ya B.hya false b) (funext fun _ => h)
theorem denote_deq_true {B : Bufs} {b : Fin 4} {L : List Cmd} {K K' : PUnit → P F} (h : denote B L K = K' ⟨⟩) :
    denote B (.deq true b :: L) K = deqK B.dy B.dys B.yb B.hyb true b K' :=
  congrArg (deqK B.dy B.dys B.yb B.hyb true b) (funext fun _ => h)
theorem denote_quant_false {B : Bufs} {c : Fin 12} {b : Fin 4} {L : List Cmd} {K K' : PUnit → P F} (h : denote B L K = K' ⟨⟩) :
    denote B (.quant false c b :: L) K = quantK B.codes B.rs B.xt B.hxt B.xs B.xa B.hxa false c b K' :=
  congrArg (quantK B.codes B.rs B.xt B.hxt B.xs B.xa B.hxa false c b) (funext fun _ => h)
theorem denote_quant_true {B : Bufs} {c : Fin 12} {b : Fin 4} {L : List Cmd} {K K' : PUnit → P F} (h : denote B L K = K' ⟨⟩) :
    denote B (.quant true c b :: L) K = quantK B.codes B.rs B.xt B.hxt B.xs B.xb B.hxb true c b K' :=
  congrArg (quantK B.codes B.rs B.xt B.hxt B.xs B.xb B.hxb true c b) (funext fun _ => h)
theorem denote_dot_false {B : Bufs} {c : Fin 12} {L : List Cmd} {K K' : PUnit → P F} (h : denote B L K = K' ⟨⟩) :
    denote B (.dot false c :: L) K = dotK B.out B.xa B.ya c K' :=
  congrArg (dotK B.out B.xa B.ya c) (funext fun _ => h)
theorem denote_dot_true {B : Bufs} {c : Fin 12} {L : List Cmd} {K K' : PUnit → P F} (h : denote B L K = K' ⟨⟩) :
    denote B (.dot true c :: L) K = dotK B.out B.xb B.yb c K' :=
  congrArg (dotK B.out B.xb B.yb c) (funext fun _ => h)

end Cert.Kernel.Steps
-- ==== Proof.Kernel.Body.lean ====
/- The printed body runs lists of steps (`Steps.denote`).

   Each printed branch is met step by step: the next step of the list is unfolded to the loads and stores it is, and
   they are the branch's next ones, by computation. -/
module

public import proofs.«01_k».proof.Proof.Kernel.Cmds

@[expose] public section

set_option maxRecDepth 16384

noncomputable section

namespace Cert.Kernel.Steps

open Idealize.ShloMosaic Idealize.SL.Sem
open Cert.Kernel Cert.Kernel.Gen

variable {F : FTy → Type} [FloatOps F]
variable (i : grid0.Coords) (arg1 : Memref sig .tc .vmem S1024x3072 .fp8e4m3) (harg1 : arg1.IsWhole) (arg2 : Memref sig .tc .vmem S1x1024x24 .f32) (harg2 : arg2.IsWhole) (arg3 : Memref sig .tc .vmem S1024x1024 .fp8e5m2) (harg3 : arg3.IsWhole) (arg4 : Memref sig .tc .vmem S1x8x1024 .f32) (harg4 : arg4.IsWhole) (arg5 : Memref sig .tc .hbm S3072x1024 .f32) (harg5 : arg5.IsWhole) (arg6 : Memref sig .tc .vmem S3072x1024 .f32) (harg6 : arg6.IsWhole) (arg7 : Memref sig .tc .vmem S1024x3072 .fp8e4m3) (harg7 : arg7.IsWhole) (arg8 : Memref sig .tc .vmem S1x8x3072 .f32) (harg8 : arg8.IsWhole) (arg9 : Memref sig .tc .vmem S3072x512 .bf16) (harg9 : arg9.IsWhole) (arg10 : Memref sig .tc .vmem S3072x512 .bf16) (harg10 : arg10.IsWhole) (arg11 : Memref sig .tc .vmem S512x1024 .bf16) (harg11 : arg11.IsWhole) (arg12 : Memref sig .tc .vmem S512x1024 .bf16) (harg12 : arg12.IsWhole) (arg13 : DmaSems sig S_)

/-- The body's buffers. -/
abbrev bufs : Bufs := ⟨arg1, arg2, arg3, arg4, arg6, arg7, harg7, arg8, arg9, harg9, arg10, harg10, arg11, harg11, arg12, harg12⟩

/-- An effect met at the head of a program, -/
theorem op_eq {β : Type} {e : TpuEff nD τ sig (Elt F) Λ₀ .tc β} {K K' : β → P F} (h : ∀ x, K x = K' x) : Prog.op e K = Prog.op e K' :=
  congrArg (Prog.op e) (funext h)
/-- and after a list of steps. -/
theorem denote_nil_op {B : Bufs} {β : Type} {e : TpuEff nD τ sig (Elt F) Λ₀ .tc β} {K K' : β → P F} (h : ∀ x, K x = K' x) :
    denote B [] (fun _ => Prog.op e K) = Prog.op e K' :=
  congrArg (Prog.op e) (funext h)

set_option maxHeartbeats 0 in
/-- The first point: the transfer of the gradient's start runs beside the first half, and is waited for before the second, whose
    product is the first half's. -/
theorem first_eq (h1 : k0_cond1 i = 1#1) (h2 : ¬ k0_cond2 i = 1#1) (h3 : ¬ k0_cond3 i = 1#1) :
    Prog.op (.enqueueDma arg5 (.here arg6) (.dma arg13.sem) harg5.wordExact harg6.wordExact ⟨Or.inl rfl, trivial⟩) (fun _ =>
      denote (bufs arg1 arg2 arg3 arg4 arg6 arg7 harg7 arg8 arg9 harg9 arg10 harg10 arg11 harg11 arg12 harg12) (alone false [])
        (fun _ => Prog.op (.waitDma2 arg13.sem arg5 arg6 harg5.wordExact harg6.wordExact) (fun _ =>
          denote (bufs arg1 arg2 arg3 arg4 arg6 arg7 harg7 arg8 arg9 harg9 arg10 harg10 arg11 harg11 arg12 harg12) (both true []) (fun _ => .ret ⟨⟩))))
      = cc0_fp8_weight_grad (F := F) i arg1 harg1 arg2 harg2 arg3 harg3 arg4 harg4 arg5 harg5 arg6 harg6 arg7 harg7 arg8 harg8 arg9 harg9 arg10 harg10 arg11 harg11 arg12 harg12 arg13 := by
  unfold cc0_fp8_weight_grad
  rw [dif_pos h1, dif_neg h2, dif_neg h3]
  refine op_eq fun _ => ?_
  iterate 4 refine denote_deq_false ?_
  iterate 12
    iterate 4 refine denote_quant_false ?_
  refine denote_nil_op fun _ => ?_
  iterate 4 refine denote_deq_true ?_
  iterate 12
    iterate 4 refine denote_quant_true ?_
    refine denote_dot_false ?_
  rfl

set_option maxHeartbeats 0 in
/-- A point past the first and before the last: both halves, each beside the product of the half before it. -/
theorem mid_eq (h1 : ¬ k0_cond1 i = 1#1) (h2 : k0_cond2 i = 1#1) (h3 : ¬ k0_cond3 i = 1#1) :
    denote (bufs arg1 arg2 arg3 arg4 arg6 arg7 harg7 arg8 arg9 harg9 arg10 harg10 arg11 harg11 arg12 harg12) (both false (both true [])) (fun _ => .ret ⟨⟩)
      = cc0_fp8_weight_grad (F := F) i arg1 harg1 arg2 harg2 arg3 harg3 arg4 harg4 arg5 harg5 arg6 harg6 arg7 harg7 arg8 harg8 arg9 harg9 arg10 harg10 arg11 harg11 arg12 harg12 arg13 := by
  unfold cc0_fp8_weight_grad
  rw [dif_neg h1, dif_pos h2, dif_neg h3]
  iterate 4 refine denote_deq_false ?_
  iterate 12
    iterate 4 refine denote_quant_false ?_
    refine denote_dot_true ?_
  iterate 4 refine denote_deq_true ?_
  iterate 12
    iterate 4 refine denote_quant_true ?_
    refine denote_dot_false ?_
  rfl

set_option maxHeartbeats 0 in
/-- The last point: as before it, and then the product of its second half. -/
theorem last_eq (h1 : ¬ k0_cond1 i = 1#1) (h2 : k0_cond2 i = 1#1) (h3 : k0_cond3 i = 1#1) :
    denote (bufs arg1 arg2 arg3 arg4 arg6 arg7 harg7 arg8 arg9 harg9 arg10 harg10 arg11 harg11 arg12 harg12) (both false (both true (dots true []))) (fun _ => .ret ⟨⟩)
      = cc0_fp8_weight_grad (F := F) i arg1 harg1 arg2 harg2 arg3 harg3 arg4 harg4 arg5 harg5 arg6 harg6 arg7 harg7 arg8 harg8 arg9 harg9 arg10 harg10 arg11 harg11 arg12 harg12 arg13 := by
  unfold cc0_fp8_weight_grad
  rw [dif_neg h1, dif_pos h2, dif_pos h3]
  iterate 4 refine denote_deq_false ?_
  iterate 12
    iterate 4 refine denote_quant_false ?_
    refine denote_dot_true ?_
  iterate 4 refine denote_deq_true ?_
  iterate 12
    iterate 4 refine denote_quant_true ?_
    refine denote_dot_false ?_
  iterate 12 refine denote_dot_true ?_
  rfl

end Cert.Kernel.Steps
-- ==== Proof.Kernel.Wp.lean ====
/- What a list of steps does to the buffers, as a function of their contents, and the proof that running it does that. -/
module

public import proofs.«01_k».proof.Proof.Kernel.Cmds
public import Idealize.ShloMosaic.Lib.VecWindow

@[expose] public section

set_option maxRecDepth 16384

noncomputable section

namespace Cert.Kernel.Steps

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Loads and stores of an owned memref -/

section Access

variable {s : Shape} {e : EltTy} {m : Memref sig .tc .vmem s e} {X : s.Idx → Elt F e} {off size : Fin s.rank → ℕ}
  {inb : ∀ a, off a + size a ≤ s.size a} (𝒱 : Variants) (c : Dev nD) (bd : Option 𝒱.V)

/-- A load of a window of an owned memref reads the window of its contents. -/
theorem owns_load {Q : PUnit.{1} → sProp 𝕄} {hl : m.view.LoadsAt (Rect.unit off size inb).toLoadRect} {k : ((Rect.unit off size inb).shape.Idx → Elt F e) → P F} :
    owns (c : Thread nD τ) m fullShare X
      ⊢ iprop((owns (c : Thread nD τ) m fullShare X -∗ wp frame (wpE (defs₀ (F := F)) 𝒱 (c : Thread nD τ) bd) Set.univ (k (VecWindow.window X off size inb)) Q)
        -∗ wp frame (wpE (defs₀ (F := F)) 𝒱 (c : Thread nD τ) bd) Set.univ (.op (.load m (Rect.unit off size inb).toLoadRect hl) k) Q) := by
  unfold owns
  iintro ⟨%f, %hf, H⟩ Hk
  iapply (wp_load 𝒱 (c : Thread nD τ) bd Set.univ (m := m) (S := m.view.set) (m.view.setOn_subset_set _)) $$ H
  iintro H
  have h : m.view.readAt (Elt F) (Rect.unit off size inb).toLoadRect f = VecWindow.window X off size inb := by
    rw [← hf]; rfl
  rw [h]
  iapply Hk; iexists f; isplitr
  · ipureintro; exact hf
  · iexact H

/-- A store over a window of an owned memref puts the payload there. -/
theorem owns_store {Q : PUnit.{1} → sProp 𝕄} {w : (Rect.unit off size inb).shape.Idx → Elt F e} {hx : (m.access (Rect.unit off size inb)).Stores Finset.univ}
    {hm : (Finset.univ : Finset (Rect.unit off size inb).shape.Idx) = Finset.univ ∨ ∀ a, (Rect.unit off size inb).stride a = 1} {k : PUnit → P F} :
    owns (c : Thread nD τ) m fullShare X
      ⊢ iprop((owns (c : Thread nD τ) m fullShare (VecWindow.put X off size w) -∗ wp frame (wpE (defs₀ (F := F)) 𝒱 (c : Thread nD τ) bd) Set.univ (k ⟨⟩) Q)
        -∗ wp frame (wpE (defs₀ (F := F)) 𝒱 (c : Thread nD τ) bd) Set.univ (.op (.store m (Rect.unit off size inb) w Finset.univ hx hm) k) Q) := by
  unfold owns
  iintro ⟨%f, %hf, H⟩ Hk
  iapply (wp_store 𝒱 (c : Thread nD τ) bd Set.univ (m := m) (r := Rect.unit off size inb) (S := m.view.set)
    (((m.access _).setOn_subset_set _).trans (m.view.set_slice_subset _))) $$ H
  iintro H
  iapply Hk; iexists _; isplitr
  · ipureintro
    rw [← hf]
    exact View.read_writes_cons_put m.view f inb w [] rfl
  · iexact H

end Access

/-! ## The steps on contents -/

/-- What the body is called with at a point: a block of each input. -/
structure In (F : FTy → Type) [FloatOps F] where
  codes : S1024x3072.Idx → Elt F .fp8e4m3
  rs : S1x1024x24.Idx → Elt F .f32
  dy : S1024x1024.Idx → Elt F .fp8e5m2
  dys : S1x8x1024.Idx → Elt F .f32

/-- The contents of the buffers the steps write. -/
structure St (F : FTy → Type) [FloatOps F] where
  out : S3072x1024.Idx → Elt F .f32
  xt : S1024x3072.Idx → Elt F .fp8e4m3
  xs : S1x8x3072.Idx → Elt F .f32
  xa : S3072x512.Idx → Elt F .bf16
  xb : S3072x512.Idx → Elt F .bf16
  ya : S512x1024.Idx → Elt F .bf16
  yb : S512x1024.Idx → Elt F .bf16

variable (I : In F)

/-- Block `b` of half `p` of `dy`, dequantised. -/
abbrev dyOf (p : Bool) (b : Fin 4) : FVec F S128x1024 .bf16 :=
  deqVal (VecWindow.window I.dy ![(half p + b.val) * 128, 0] S128x1024.size (inDy p b))
    (VecWindow.window I.dys ![0, half p + b.val, 0] S1x1x1024.size (inDys p b))

/-- Tile `g` of block `b` of half `p` of `x`, dequantised, -/
abbrev xOf (p : Bool) (b : Fin 4) (g : Fin 24) : FVec F S128x128 .bf16 :=
  xVal g (rowVal (VecWindow.window I.rs ![0, (half p + b.val) * 128, 0] S1x128x24.size (inRs p b)))
    (VecWindow.window I.codes ![(half p + b.val) * 128, g.val * 128] S128x128.size (inCodes p b g))
/-- the exponents of its columns' scales, -/
abbrev eOf (p : Bool) (b : Fin 4) (g : Fin 24) : IVec S1x128 32 := expVal (fieldVal (topVal (xOf I p b g)))
/-- the scales, -/
abbrev sOf (p : Bool) (b : Fin 4) (g : Fin 24) : FVec F S1x128 .f32 := scaleVal (eOf I p b g)
/-- the codes, -/
abbrev cOf (p : Bool) (b : Fin 4) (g : Fin 24) : FVec F S128x128 .fp8e4m3 := codeVal (xOf I p b g) (invVal (eOf I p b g))
/-- and the tile the product is made of. -/
abbrev wOf (p : Bool) (b : Fin 4) (g : Fin 24) : FVec F S128x128 .bf16 := backVal (cOf I p b g) (sOf I p b g)

/-- One tile's three stores. -/
def tile (p : Bool) (b : Fin 4) (g : Fin 24) (σ : St F) : St F :=
  let σ' : St F := { σ with
    xt := VecWindow.put σ.xt ![(half p + b.val) * 128, g.val * 128] S128x128.size (cOf I p b g)
    xs := VecWindow.put σ.xs ![0, half p + b.val, g.val * 128] S1x1x128.size (shapeCast S1x1x128 (sOf I p b g) shapeCasts_S1x128_S1x1x128) }
  match p with
  | false => { σ' with xa := VecWindow.put σ.xa ![g.val * 128, b.val * 128] S128x128.size (wOf I false b g) }
  | true => { σ' with xb := VecWindow.put σ.xb ![g.val * 128, b.val * 128] S128x128.size (wOf I true b g) }

/-- One chunk of the gradient after a product. -/
abbrev dotOf (out : S3072x1024.Idx → Elt F .f32) (x : S3072x512.Idx → Elt F .bf16) (y : S512x1024.Idx → Elt F .bf16) (c : Fin 12) : FVec F S256x1024 .f32 :=
  dotVal (VecWindow.window out ![c.val * 256, 0] S256x1024.size (inOut c)) (VecWindow.window x ![c.val * 256, 0] S256x512.size (inXc c))
    (VecWindow.window y ![0, 0] S512x1024.size inb_S512x1024_S512x1024_0_0)

/-- One step. -/
def step (σ : St F) : Cmd → St F
  | .deq false b => { σ with ya := VecWindow.put σ.ya ![b.val * 128, 0] S128x1024.size (dyOf I false b) }
  | .deq true b => { σ with yb := VecWindow.put σ.yb ![b.val * 128, 0] S128x1024.size (dyOf I true b) }
  | .quant p c b => tile I p b (hi c) (tile I p b (lo c) σ)
  | .dot false c => { σ with out := VecWindow.put σ.out ![c.val * 256, 0] S256x1024.size (dotOf σ.out σ.xa σ.ya c) }
  | .dot true c => { σ with out := VecWindow.put σ.out ![c.val * 256, 0] S256x1024.size (dotOf σ.out σ.xb σ.yb c) }

/-- A list of steps, in order. -/
def run (L : List Cmd) (σ : St F) : St F := L.foldl (step I) σ

/-! ## The steps run -/

/-- The input blocks, at their contents. -/
def ins (c : Dev nD) (B : Bufs) : sProp 𝕄 :=
  iprop(owns (c : Thread nD τ) B.codes fullShare I.codes ∗ owns (c : Thread nD τ) B.rs fullShare I.rs
    ∗ owns (c : Thread nD τ) B.dy fullShare I.dy ∗ owns (c : Thread nD τ) B.dys fullShare I.dys)

/-- The written buffers but the gradient's, at their contents. -/
def sts (c : Dev nD) (B : Bufs) (σ : St F) : sProp 𝕄 :=
  iprop(owns (c : Thread nD τ) B.xt fullShare σ.xt ∗ owns (c : Thread nD τ) B.xs fullShare σ.xs
    ∗ owns (c : Thread nD τ) B.xa fullShare σ.xa ∗ owns (c : Thread nD τ) B.xb fullShare σ.xb
    ∗ owns (c : Thread nD τ) B.ya fullShare σ.ya ∗ owns (c : Thread nD τ) B.yb fullShare σ.yb)

section Run

variable (𝒱 : Variants) (c : Dev nD) (bd : Option 𝒱.V)

theorem wp_deqK {Q : PUnit.{1} → sProp 𝕄} {dy : Memref sig .tc .vmem S1024x1024 .fp8e5m2} {dys : Memref sig .tc .vmem S1x8x1024 .f32}
    {y : Memref sig .tc .vmem S512x1024 .bf16} {hy : y.IsWhole} {p : Bool} {b : Fin 4} {K : PUnit → P F} {Y : S512x1024.Idx → Elt F .bf16} :
    iprop(owns (c : Thread nD τ) dy fullShare I.dy ∗ owns (c : Thread nD τ) dys fullShare I.dys ∗ owns (c : Thread nD τ) y fullShare Y)
      ⊢ iprop((owns (c : Thread nD τ) dy fullShare I.dy -∗ owns (c : Thread nD τ) dys fullShare I.dys
          -∗ owns (c : Thread nD τ) y fullShare (VecWindow.put Y ![b.val * 128, 0] S128x1024.size (dyOf I p b))
          -∗ wp frame (wpE (defs₀ (F := F)) 𝒱 (c : Thread nD τ) bd) Set.univ (K ⟨⟩) Q)
        -∗ wp frame (wpE (defs₀ (F := F)) 𝒱 (c : Thread nD τ) bd) Set.univ (deqK dy dys y hy p b K) Q) := by
  unfold deqK
  iintro ⟨Hdy, Hdys, Hy⟩ Hk
  iapply (owns_load 𝒱 c bd) $$ Hdys; iintro Hdys
  iapply (owns_load 𝒱 c bd) $$ Hdy; iintro Hdy
  iapply (owns_load 𝒱 c bd) $$ Hy; iintro Hy
  iapply (owns_store 𝒱 c bd) $$ Hy; iintro Hy
  iapply Hk $$ Hdy Hdys
  iexact Hy

theorem wp_tileK {Q : PUnit.{1} → sProp 𝕄} {codes xt : Memref sig .tc .vmem S1024x3072 .fp8e4m3} {hxt : xt.IsWhole} {xs : Memref sig .tc .vmem S1x8x3072 .f32}
    {x : Memref sig .tc .vmem S3072x512 .bf16} {hx : x.IsWhole} {p : Bool} {b : Fin 4} {g : Fin 24} {K : PUnit → P F}
    {T : S1024x3072.Idx → Elt F .fp8e4m3} {S : S1x8x3072.Idx → Elt F .f32} {X : S3072x512.Idx → Elt F .bf16} :
    iprop(owns (c : Thread nD τ) codes fullShare I.codes ∗ owns (c : Thread nD τ) xt fullShare T ∗ owns (c : Thread nD τ) xs fullShare S
        ∗ owns (c : Thread nD τ) x fullShare X)
      ⊢ iprop((owns (c : Thread nD τ) codes fullShare I.codes
          -∗ owns (c : Thread nD τ) xt fullShare (VecWindow.put T ![(half p + b.val) * 128, g.val * 128] S128x128.size (cOf I p b g))
          -∗ owns (c : Thread nD τ) xs fullShare (VecWindow.put S ![0, half p + b.val, g.val * 128] S1x1x128.size (shapeCast S1x1x128 (sOf I p b g) shapeCasts_S1x128_S1x1x128))
          -∗ owns (c : Thread nD τ) x fullShare (VecWindow.put X ![g.val * 128, b.val * 128] S128x128.size (wOf I p b g))
          -∗ wp frame (wpE (defs₀ (F := F)) 𝒱 (c : Thread nD τ) bd) Set.univ (K ⟨⟩) Q)
        -∗ wp frame (wpE (defs₀ (F := F)) 𝒱 (c : Thread nD τ) bd) Set.univ
            (tileK codes xt hxt xs x hx p b g (rowVal (VecWindow.window I.rs ![0, (half p + b.val) * 128, 0] S1x128x24.size (inRs p b))) K) Q) := by
  unfold tileK
  iintro ⟨Hc, Ht, Hs, Hx⟩ Hk
  iapply (owns_load 𝒱 c bd) $$ Hc; iintro Hc
  iapply (owns_load 𝒱 c bd) $$ Ht; iintro Ht
  iapply (owns_store 𝒱 c bd) $$ Ht; iintro Ht
  iapply (owns_load 𝒱 c bd) $$ Hs; iintro Hs
  iapply (owns_store 𝒱 c bd) $$ Hs; iintro Hs
  iapply (owns_load 𝒱 c bd) $$ Hx; iintro Hx
  iapply (owns_store 𝒱 c bd) $$ Hx; iintro Hx
  iapply Hk $$ [Hc] [Ht] [Hs] [Hx]
  · iexact Hc
  · iexact Ht
  · iexact Hs
  · iexact Hx

theorem wp_dotK {Q : PUnit.{1} → sProp 𝕄} {out : Memref sig .tc .vmem S3072x1024 .f32} {x : Memref sig .tc .vmem S3072x512 .bf16} {y : Memref sig .tc .vmem S512x1024 .bf16}
    {ch : Fin 12} {K : PUnit → P F} {O : S3072x1024.Idx → Elt F .f32} {X : S3072x512.Idx → Elt F .bf16} {Y : S512x1024.Idx → Elt F .bf16} :
    iprop(owns (c : Thread nD τ) out fullShare O ∗ owns (c : Thread nD τ) x fullShare X ∗ owns (c : Thread nD τ) y fullShare Y)
      ⊢ iprop((owns (c : Thread nD τ) out fullShare (VecWindow.put O ![ch.val * 256, 0] S256x1024.size (dotOf O X Y ch))
          -∗ owns (c : Thread nD τ) x fullShare X -∗ owns (c : Thread nD τ) y fullShare Y
          -∗ wp frame (wpE (defs₀ (F := F)) 𝒱 (c : Thread nD τ) bd) Set.univ (K ⟨⟩) Q)
        -∗ wp frame (wpE (defs₀ (F := F)) 𝒱 (c : Thread nD τ) bd) Set.univ (dotK out x y ch K) Q) := by
  unfold dotK
  iintro ⟨Ho, Hx, Hy⟩ Hk
  iapply (owns_load 𝒱 c bd) $$ Ho; iintro Ho
  iapply (owns_load 𝒱 c bd) $$ Hx; iintro Hx
  iapply (owns_load 𝒱 c bd) $$ Hy; iintro Hy
  iapply (owns_load 𝒱 c bd) $$ Ho; iintro Ho
  iapply (owns_store 𝒱 c bd) $$ Ho; iintro Ho
  iapply Hk $$ [Ho] [Hx] [Hy]
  · iexact Ho
  · iexact Hx
  · iexact Hy

/-- A step that touches the gradient is a product. -/
def Cmd.quiet : Cmd → Prop
  | .dot _ _ => False
  | _ => True

/-- A step that is no product leaves the gradient as it is, and needs nothing of it. -/
theorem wp_quiet {Q : PUnit.{1} → sProp 𝕄} {B : Bufs} {σ : St F} {K : PUnit → P F} {s : Cmd} (hs : s.quiet) :
    iprop(ins I c B ∗ sts c B σ)
      ⊢ iprop((ins I c B -∗ sts c B (step I σ s) -∗ wp frame (wpE (defs₀ (F := F)) 𝒱 (c : Thread nD τ) bd) Set.univ (K ⟨⟩) Q)
        -∗ wp frame (wpE (defs₀ (F := F)) 𝒱 (c : Thread nD τ) bd) Set.univ (cmdK B K s) Q) := by
  unfold ins sts
  obtain ⟨p, b⟩ | ⟨p, ch, b⟩ | ⟨p, ch⟩ := s
  · obtain _ | _ := p
    · dsimp only [cmdK, quantK, step]
      iintro ⟨⟨Hc, Hr, Hdy, Hdys⟩, Ht, Hs, Hxa, Hxb, Hya, Hyb⟩ Hk
      iapply (wp_deqK I 𝒱 c bd) $$ [Hdy Hdys Hya]
      · iframe
      iintro Hdy Hdys Hya
      iapply Hk $$ [Hc Hr Hdy Hdys] [Ht Hs Hxa Hxb Hya Hyb] <;> iframe
    · dsimp only [cmdK, quantK, step]
      iintro ⟨⟨Hc, Hr, Hdy, Hdys⟩, Ht, Hs, Hxa, Hxb, Hya, Hyb⟩ Hk
      iapply (wp_deqK I 𝒱 c bd) $$ [Hdy Hdys Hyb]
      · iframe
      iintro Hdy Hdys Hyb
      iapply Hk $$ [Hc Hr Hdy Hdys] [Ht Hs Hxa Hxb Hya Hyb] <;> iframe
  · obtain _ | _ := p
    · dsimp only [cmdK, quantK, step]
      iintro ⟨⟨Hc, Hr, Hdy, Hdys⟩, Ht, Hs, Hxa, Hxb, Hya, Hyb⟩ Hk
      iapply (owns_load 𝒱 c bd) $$ Hr; iintro Hr
      iapply (wp_tileK I 𝒱 c bd) $$ [Hc Ht Hs Hxa]
      · iframe
      iintro Hc Ht Hs Hxa
      iapply (wp_tileK I 𝒱 c bd) $$ [Hc Ht Hs Hxa]
      · iframe
      iintro Hc Ht Hs Hxa
      iapply Hk $$ [Hc Hr Hdy Hdys] [Ht Hs Hxa Hxb Hya Hyb]
      · iframe
      · isplitl [Ht]; · iexact Ht
        isplitl [Hs]; · iexact Hs
        isplitl [Hxa]; · iexact Hxa
        isplitl [Hxb]; · iexact Hxb
        isplitl [Hya]; · iexact Hya
        iexact Hyb
    · dsimp only [cmdK, quantK, step]
      iintro ⟨⟨Hc, Hr, Hdy, Hdys⟩, Ht, Hs, Hxa, Hxb, Hya, Hyb⟩ Hk
      iapply (owns_load 𝒱 c bd) $$ Hr; iintro Hr
      iapply (wp_tileK I 𝒱 c bd) $$ [Hc Ht Hs Hxb]
      · iframe
      iintro Hc Ht Hs Hxb
      iapply (wp_tileK I 𝒱 c bd) $$ [Hc Ht Hs Hxb]
      · iframe
      iintro Hc Ht Hs Hxb
      iapply Hk $$ [Hc Hr Hdy Hdys] [Ht Hs Hxa Hxb Hya Hyb]
      · iframe
      · isplitl [Ht]; · iexact Ht
        isplitl [Hs]; · iexact Hs
        isplitl [Hxa]; · iexact Hxa
        isplitl [Hxb]; · iexact Hxb
        isplitl [Hya]; · iexact Hya
        iexact Hyb
  · exact absurd hs id

theorem step_out_of_quiet (σ : St F) {s : Cmd} (hs : s.quiet) : (step I σ s).out = σ.out := by
  match s with
  | .deq false _ => rfl
  | .deq true _ => rfl
  | .quant false _ _ => rfl
  | .quant true _ _ => rfl

/-- Any step, the gradient's buffer held. -/
theorem wp_cmd {Q : PUnit.{1} → sProp 𝕄} {B : Bufs} {σ : St F} {K : PUnit → P F} (s : Cmd) :
    iprop(ins I c B ∗ sts c B σ ∗ owns (c : Thread nD τ) B.out fullShare σ.out)
      ⊢ iprop((ins I c B -∗ sts c B (step I σ s) -∗ owns (c : Thread nD τ) B.out fullShare (step I σ s).out
          -∗ wp frame (wpE (defs₀ (F := F)) 𝒱 (c : Thread nD τ) bd) Set.univ (K ⟨⟩) Q)
        -∗ wp frame (wpE (defs₀ (F := F)) 𝒱 (c : Thread nD τ) bd) Set.univ (cmdK B K s) Q) := by
  by_cases hs : s.quiet
  · rw [step_out_of_quiet I σ hs]
    iintro ⟨Hi, Hs, Ho⟩ Hk
    iapply (wp_quiet I 𝒱 c bd hs) $$ [Hi Hs]
    · iframe
    iintro Hi Hs
    iapply Hk $$ Hi Hs
    iexact Ho
  · unfold sts
    obtain ⟨p, b⟩ | ⟨p, ch, b⟩ | ⟨_ | _, ch⟩ := s
    · exact absurd trivial hs
    · exact absurd trivial hs
    · dsimp only [cmdK, step]
      iintro ⟨Hi, ⟨Ht, Hs, Hxa, Hxb, Hya, Hyb⟩, Ho⟩ Hk
      iapply (wp_dotK 𝒱 c bd) $$ [Ho Hxa Hya]
      · iframe
      iintro Ho Hxa Hya
      iapply Hk $$ Hi [Ht Hs Hxa Hxb Hya Hyb]
      · iframe
      iexact Ho
    · dsimp only [cmdK, step]
      iintro ⟨Hi, ⟨Ht, Hs, Hxa, Hxb, Hya, Hyb⟩, Ho⟩ Hk
      iapply (wp_dotK 𝒱 c bd) $$ [Ho Hxb Hyb]
      · iframe
      iintro Ho Hxb Hyb
      iapply Hk $$ Hi [Ht Hs Hxa Hxb Hya Hyb]
      · iframe
      iexact Ho

/-- A list of steps, the gradient's buffer held. -/
theorem wp_denote {Q : PUnit.{1} → sProp 𝕄} {B : Bufs} {K : PUnit → P F} (L : List Cmd) (σ : St F) :
    iprop(ins I c B ∗ sts c B σ ∗ owns (c : Thread nD τ) B.out fullShare σ.out)
      ⊢ iprop((ins I c B -∗ sts c B (run I L σ) -∗ owns (c : Thread nD τ) B.out fullShare (run I L σ).out
          -∗ wp frame (wpE (defs₀ (F := F)) 𝒱 (c : Thread nD τ) bd) Set.univ (K ⟨⟩) Q)
        -∗ wp frame (wpE (defs₀ (F := F)) 𝒱 (c : Thread nD τ) bd) Set.univ (denote B L K) Q) := by
  induction L generalizing σ with
  | nil =>
    iintro ⟨Hi, Hs, Ho⟩ Hk
    iapply Hk $$ Hi [Hs] [Ho]
    · iexact Hs
    · iexact Ho
  | cons s L ih =>
    iintro ⟨Hi, Hs, Ho⟩ Hk
    iapply (wp_cmd I 𝒱 c bd s) $$ [Hi Hs Ho]
    · iframe
    iintro Hi Hs Ho
    iapply (ih (step I σ s)) $$ [Hi Hs Ho]
    · iframe
    iexact Hk

/-- A list of steps none of which is a product, without the gradient's buffer. -/
theorem wp_denote_quiet {Q : PUnit.{1} → sProp 𝕄} {B : Bufs} {K : PUnit → P F} (L : List Cmd) (hL : ∀ s ∈ L, s.quiet) (σ : St F) :
    iprop(ins I c B ∗ sts c B σ)
      ⊢ iprop((ins I c B -∗ sts c B (run I L σ) -∗ wp frame (wpE (defs₀ (F := F)) 𝒱 (c : Thread nD τ) bd) Set.univ (K ⟨⟩) Q)
        -∗ wp frame (wpE (defs₀ (F := F)) 𝒱 (c : Thread nD τ) bd) Set.univ (denote B L K) Q) := by
  induction L generalizing σ with
  | nil =>
    iintro ⟨Hi, Hs⟩ Hk
    iapply Hk $$ Hi
    iexact Hs
  | cons s L ih =>
    iintro ⟨Hi, Hs⟩ Hk
    iapply (wp_quiet I 𝒱 c bd (hL s (List.mem_cons_self ..))) $$ [Hi Hs]
    · iframe
    iintro Hi Hs
    iapply (ih (fun s' h => hL s' (List.mem_cons_of_mem _ h)) (step I σ s)) $$ [Hi Hs]
    · iframe
    iexact Hk

theorem quiet_alone (p : Bool) : ∀ s ∈ alone p [], s.quiet := by
  show ∀ s ∈ deqs p (chunks (quants p) []), s.quiet
  unfold deqs chunks quants
  simp only [List.forall_mem_cons, List.not_mem_nil, false_imp_iff, implies_true, Cmd.quiet, and_self]

end Run

end Cert.Kernel.Steps
-- ==== Proof.Kernel.State.lean ====
/- What the buffers hold after each list of steps the body runs: closed forms of the tiles written, and of the gradient. -/
module

public import proofs.«01_k».proof.Proof.Kernel.Wp
public import Idealize.ShloMosaic.Lib.Pointwise.Index

@[expose] public section

set_option maxRecDepth 16384

noncomputable section

namespace Cert.Kernel.Steps

open Cert.Kernel Cert.Kernel.Gen
open Idealize.ShloMosaic

variable {F : FTy → Type} [FloatOps F]

/-! ## The lists, flat -/

abbrev deqL (p : Bool) : List Cmd := (List.finRange 4).map (.deq p)
abbrev quantL (p : Bool) (c : Fin 12) : List Cmd := (List.finRange 4).map (.quant p c)
abbrev bothL (p : Bool) : List Cmd := deqL p ++ (List.finRange 12).flatMap fun c => quantL p c ++ [.dot (!p) c]
abbrev aloneL (p : Bool) : List Cmd := deqL p ++ (List.finRange 12).flatMap fun c => quantL p c
abbrev dotsL (p : Bool) : List Cmd := (List.finRange 12).flatMap fun c => [] ++ [.dot p c]

theorem both_eq (p : Bool) (L : List Cmd) : both p L = bothL p ++ L := rfl
theorem alone_eq (p : Bool) (L : List Cmd) : alone p L = aloneL p ++ L := rfl
theorem dots_eq (p : Bool) (L : List Cmd) : dots p L = dotsL p ++ L := rfl

theorem run_append (I : In F) (L L' : List Cmd) (σ : St F) : run I (L ++ L') σ = run I L' (run I L σ) := List.foldl_append ..

/-! ## The closed forms -/

/-- The half, the block and the place in the block of a token of the point's 1024. -/
abbrev hOf (a : Fin 1024) : Bool := decide (512 ≤ a.val)
abbrev bOf (a : Fin 1024) : Fin 4 := ⟨a.val / 128 % 4, Nat.mod_lt _ (by decide)⟩
abbrev l128 {n : ℕ} (a : Fin n) : Fin 128 := ⟨a.val % 128, Nat.mod_lt _ (by decide)⟩
/-- The group of a column, the block of a token of a half. -/
abbrev gOf (b : Fin 3072) : Fin 24 := ⟨b.val / 128, by omega⟩
abbrev b512 (b : Fin 512) : Fin 4 := ⟨b.val / 128, by omega⟩

variable (I : In F)

/-- The codes of a point, -/
def XT : S1024x3072.Idx → Elt F .fp8e4m3 := fun i => cOf I (hOf (i 0)) (bOf (i 0)) (gOf (i 1)) (ix2 (l128 (i 0)) (l128 (i 1)))
/-- its scales, -/
def XS : S1x8x3072.Idx → Elt F .f32 := fun i =>
  shapeCast S1x1x128 (sOf I (decide (4 ≤ (i 1).val)) ⟨(i 1).val % 4, Nat.mod_lt _ (by decide)⟩ (gOf (i 2))) shapeCasts_S1x128_S1x1x128 (ix3 0 0 (l128 (i 2)))
/-- the left factor of a half's product, -/
def XX (p : Bool) : S3072x512.Idx → Elt F .bf16 := fun i => wOf I p (b512 (i 1)) (gOf (i 0)) (ix2 (l128 (i 0)) (l128 (i 1)))
/-- the right factor, -/
def YY (p : Bool) : S512x1024.Idx → Elt F .bf16 := fun i => dyOf I p (b512 (i 0)) (ix2 (l128 (i 0)) (i 1))
/-- and the gradient with a half's product added. -/
def dotAll (O : S3072x1024.Idx → Elt F .f32) (X : S3072x512.Idx → Elt F .bf16) (Y : S512x1024.Idx → Elt F .bf16) : S3072x1024.Idx → Elt F .f32 :=
  fun i => dotOf O X Y ⟨(i 0).val / 256, by have := (i 0).isLt; change _ < 3072 at this; omega⟩ (ix2 ⟨(i 0).val % 256, Nat.mod_lt _ (by decide)⟩ (i 1))

/-! ## One put -/

section Put

variable {α : Type} {s : Shape} {x T : s.Idx → α} {off size : Fin s.rank → ℕ} {w : ((a : Fin s.rank) → Fin (size a)) → α} {y : s.Idx}

/-- A put of a part of `T` leaves `T` where it writes, and where `T` was. -/
theorem put_eq (hw : ∀ h : ∀ a, off a ≤ (y a).val ∧ (y a).val < off a + size a, w (Rect.unitLocal (s := s) (off := off) (size := size) y h) = T y)
    (hy : (∀ a, off a ≤ (y a).val ∧ (y a).val < off a + size a) ∨ x y = T y) : VecWindow.put x off size w y = T y := by
  unfold VecWindow.put
  by_cases h : ∀ a, off a ≤ (y a).val ∧ (y a).val < off a + size a
  · rw [dif_pos h]; exact hw h
  · rw [dif_neg h]; exact hy.resolve_left h

theorem put_out (a : Fin s.rank) (h : (y a).val < off a ∨ off a + size a ≤ (y a).val) : VecWindow.put x off size w y = x y := by
  unfold VecWindow.put
  rw [dif_neg (fun h' => by have := h' a; omega)]

end Put

theorem cOf_at {p p' : Bool} {b b' : Fin 4} {g g' : Fin 24} {j j' : S128x128.Idx} (hp : p = p') (hb : b.val = b'.val) (hg : g.val = g'.val)
    (h0 : (j 0).val = (j' 0).val) (h1 : (j 1).val = (j' 1).val) : cOf I p b g j = cOf I p' b' g' j' := by
  obtain rfl := hp; obtain rfl := Fin.ext hb; obtain rfl := Fin.ext hg
  congr 1; rw [eq_ix2 j, eq_ix2 j']; exact (ix2_inj _ _ _ _).mpr ⟨Fin.ext h0, Fin.ext h1⟩

theorem wOf_at {p p' : Bool} {b b' : Fin 4} {g g' : Fin 24} {j j' : S128x128.Idx} (hp : p = p') (hb : b.val = b'.val) (hg : g.val = g'.val)
    (h0 : (j 0).val = (j' 0).val) (h1 : (j 1).val = (j' 1).val) : wOf I p b g j = wOf I p' b' g' j' := by
  obtain rfl := hp; obtain rfl := Fin.ext hb; obtain rfl := Fin.ext hg
  congr 1; rw [eq_ix2 j, eq_ix2 j']; exact (ix2_inj _ _ _ _).mpr ⟨Fin.ext h0, Fin.ext h1⟩

theorem dyOf_at {p p' : Bool} {b b' : Fin 4} {j j' : S128x1024.Idx} (hp : p = p') (hb : b.val = b'.val)
    (h0 : (j 0).val = (j' 0).val) (h1 : (j 1).val = (j' 1).val) : dyOf I p b j = dyOf I p' b' j' := by
  obtain rfl := hp; obtain rfl := Fin.ext hb
  congr 1; rw [eq_ix2 j, eq_ix2 j']; exact (ix2_inj _ _ _ _).mpr ⟨Fin.ext h0, Fin.ext h1⟩

theorem sOf_at {p p' : Bool} {b b' : Fin 4} {g g' : Fin 24} {j j' : S1x1x128.Idx} (hp : p = p') (hb : b.val = b'.val) (hg : g.val = g'.val)
    (h2 : (j 2).val = (j' 2).val) : shapeCast S1x1x128 (sOf I p b g) shapeCasts_S1x128_S1x1x128 j = shapeCast S1x1x128 (sOf I p' b' g') shapeCasts_S1x128_S1x1x128 j' := by
  obtain rfl := hp; obtain rfl := Fin.ext hb; obtain rfl := Fin.ext hg
  congr 1; rw [eq_ix3 j, eq_ix3 j']; exact (ix3_inj _ _ _ _ _ _).mpr ⟨Subsingleton.elim (α := Fin 1) _ _, Subsingleton.elim (α := Fin 1) _ _, Fin.ext h2⟩

theorem half_val (p : Bool) : half p = 0 ∧ p = false ∨ half p = 4 ∧ p = true := by cases p <;> simp [half]

/-- A tile's codes, put. -/
theorem put_xt {x : S1024x3072.Idx → Elt F .fp8e4m3} {p : Bool} {b : Fin 4} {g : Fin 24} {y : S1024x3072.Idx}
    (hy : (hOf (y 0) = p ∧ bOf (y 0) = b ∧ gOf (y 1) = g) ∨ x y = XT I y) :
    VecWindow.put x ![(half p + b.val) * 128, g.val * 128] S128x128.size (cOf I p b g) y = XT I y := by
  refine put_eq (T := XT I) (fun h => ?_) (hy.imp_left fun ⟨hp, hb, hg⟩ => ?_)
  · have h0 : (half p + b.val) * 128 ≤ (y 0).val ∧ (y 0).val < (half p + b.val) * 128 + 128 := h 0
    have h1 : g.val * 128 ≤ (y 1).val ∧ (y 1).val < g.val * 128 + 128 := h 1
    have := b.isLt
    refine cOf_at I ?_ ?_ ?_ ?_ ?_
    · rcases half_val p with ⟨hh, rfl⟩ | ⟨hh, rfl⟩
      · exact (decide_eq_false (by omega)).symm
      · exact (decide_eq_true (by omega)).symm
    · show b.val = (y 0).val / 128 % 4
      rcases half_val p with ⟨hh, _⟩ | ⟨hh, _⟩ <;> omega
    · show g.val = (y 1).val / 128
      omega
    · show (y 0).val - (half p + b.val) * 128 = (y 0).val % 128
      omega
    · show (y 1).val - g.val * 128 = (y 1).val % 128
      omega
  · have hb' : (y 0).val / 128 % 4 = b.val := congrArg Fin.val hb
    have hg' : (y 1).val / 128 = g.val := congrArg Fin.val hg
    have hy0 : (y 0).val < 1024 := (y 0).isLt
    intro a
    match a with
    | ⟨0, _⟩ =>
      show (half p + b.val) * 128 ≤ (y 0).val ∧ (y 0).val < (half p + b.val) * 128 + 128
      rcases half_val p with ⟨hh, rfl⟩ | ⟨hh, rfl⟩
      · have := of_decide_eq_false hp; omega
      · have := of_decide_eq_true hp; omega
    | ⟨1, _⟩ =>
      show g.val * 128 ≤ (y 1).val ∧ (y 1).val < g.val * 128 + 128
      omega

/-- A tile's scales, put. -/
theorem put_xs {x : S1x8x3072.Idx → Elt F .f32} {p : Bool} {b : Fin 4} {g : Fin 24} {y : S1x8x3072.Idx}
    (hy : (decide (4 ≤ (y 1).val) = p ∧ (y 1).val % 4 = b.val ∧ gOf (y 2) = g) ∨ x y = XS I y) :
    VecWindow.put x ![0, half p + b.val, g.val * 128] S1x1x128.size (shapeCast S1x1x128 (sOf I p b g) shapeCasts_S1x128_S1x1x128) y = XS I y := by
  refine put_eq (T := XS I) (fun h => ?_) (hy.imp_left fun ⟨hp, hb, hg⟩ => ?_)
  · have h0 : half p + b.val ≤ (y 1).val ∧ (y 1).val < half p + b.val + 1 := h 1
    have h1 : g.val * 128 ≤ (y 2).val ∧ (y 2).val < g.val * 128 + 128 := h 2
    have := b.isLt
    refine sOf_at I ?_ ?_ ?_ ?_
    · rcases half_val p with ⟨hh, rfl⟩ | ⟨hh, rfl⟩
      · exact (decide_eq_false (by omega)).symm
      · exact (decide_eq_true (by omega)).symm
    · show b.val = (y 1).val % 4
      rcases half_val p with ⟨hh, _⟩ | ⟨hh, _⟩ <;> omega
    · show g.val = (y 2).val / 128
      omega
    · show (y 2).val - g.val * 128 = (y 2).val % 128
      omega
  · have hg' : (y 2).val / 128 = g.val := congrArg Fin.val hg
    have hy1 : (y 1).val < 8 := (y 1).isLt
    have hy0 : (y 0).val < 1 := (y 0).isLt
    intro a
    match a with
    | ⟨0, _⟩ =>
      show 0 ≤ (y 0).val ∧ (y 0).val < 0 + 1
      omega
    | ⟨1, _⟩ =>
      show half p + b.val ≤ (y 1).val ∧ (y 1).val < half p + b.val + 1
      rcases half_val p with ⟨hh, rfl⟩ | ⟨hh, rfl⟩
      · have := of_decide_eq_false hp; omega
      · have := of_decide_eq_true hp; omega
    | ⟨2, _⟩ =>
      show g.val * 128 ≤ (y 2).val ∧ (y 2).val < g.val * 128 + 128
      omega

/-- A tile of the left factor, put. -/
theorem put_x {x : S3072x512.Idx → Elt F .bf16} {p : Bool} {b : Fin 4} {g : Fin 24} {y : S3072x512.Idx}
    (hy : (b512 (y 1) = b ∧ gOf (y 0) = g) ∨ x y = XX I p y) :
    VecWindow.put x ![g.val * 128, b.val * 128] S128x128.size (wOf I p b g) y = XX I p y := by
  refine put_eq (T := XX I p) (fun h => ?_) (hy.imp_left fun ⟨hb, hg⟩ => ?_)
  · have h0 : g.val * 128 ≤ (y 0).val ∧ (y 0).val < g.val * 128 + 128 := h 0
    have h1 : b.val * 128 ≤ (y 1).val ∧ (y 1).val < b.val * 128 + 128 := h 1
    refine wOf_at I rfl ?_ ?_ ?_ ?_
    · show b.val = (y 1).val / 128
      omega
    · show g.val = (y 0).val / 128
      omega
    · show (y 0).val - g.val * 128 = (y 0).val % 128
      omega
    · show (y 1).val - b.val * 128 = (y 1).val % 128
      omega
  · have hb' : (y 1).val / 128 = b.val := congrArg Fin.val hb
    have hg' : (y 0).val / 128 = g.val := congrArg Fin.val hg
    intro a
    match a with
    | ⟨0, _⟩ =>
      show g.val * 128 ≤ (y 0).val ∧ (y 0).val < g.val * 128 + 128
      omega
    | ⟨1, _⟩ =>
      show b.val * 128 ≤ (y 1).val ∧ (y 1).val < b.val * 128 + 128
      omega

/-- A block of the right factor, put. -/
theorem put_y {x : S512x1024.Idx → Elt F .bf16} {p : Bool} {b : Fin 4} {y : S512x1024.Idx} (hy : b512 (y 0) = b ∨ x y = YY I p y) :
    VecWindow.put x ![b.val * 128, 0] S128x1024.size (dyOf I p b) y = YY I p y := by
  refine put_eq (T := YY I p) (fun h => ?_) (hy.imp_left fun hb => ?_)
  · have h0 : b.val * 128 ≤ (y 0).val ∧ (y 0).val < b.val * 128 + 128 := h 0
    refine dyOf_at I rfl ?_ ?_ ?_
    · show b.val = (y 0).val / 128
      omega
    · show (y 0).val - b.val * 128 = (y 0).val % 128
      omega
    · show (y 1).val - 0 = (y 1).val
      omega
  · have hb' : (y 0).val / 128 = b.val := congrArg Fin.val hb
    have hy1 : (y 1).val < 1024 := (y 1).isLt
    intro a
    match a with
    | ⟨0, _⟩ =>
      show b.val * 128 ≤ (y 0).val ∧ (y 0).val < b.val * 128 + 128
      omega
    | ⟨1, _⟩ =>
      show 0 ≤ (y 1).val ∧ (y 1).val < 0 + 1024
      omega

/-! ## One step -/

/-- The factors of half `p` in a state. -/
def St.x (σ : St F) : Bool → S3072x512.Idx → Elt F .bf16
  | false => σ.xa
  | true => σ.xb
def St.y (σ : St F) : Bool → S512x1024.Idx → Elt F .bf16
  | false => σ.ya
  | true => σ.yb

/-- A step on half `p`. -/
def Cmd.on (p : Bool) : Cmd → Prop
  | .deq q _ => q = p
  | .quant q _ _ => q = p
  | .dot _ _ => False

theorem step_xt {s : Cmd} {σ : St F} {y : S1024x3072.Idx} (h : σ.xt y = XT I y) : (step I σ s).xt y = XT I y := by
  match s with
  | .deq false _ => exact h
  | .deq true _ => exact h
  | .dot false _ => exact h
  | .dot true _ => exact h
  | .quant false _ _ => exact put_xt I (.inr (put_xt I (.inr h)))
  | .quant true _ _ => exact put_xt I (.inr (put_xt I (.inr h)))

theorem step_xs {s : Cmd} {σ : St F} {y : S1x8x3072.Idx} (h : σ.xs y = XS I y) : (step I σ s).xs y = XS I y := by
  match s with
  | .deq false _ => exact h
  | .deq true _ => exact h
  | .dot false _ => exact h
  | .dot true _ => exact h
  | .quant false _ _ => exact put_xs I (.inr (put_xs I (.inr h)))
  | .quant true _ _ => exact put_xs I (.inr (put_xs I (.inr h)))

theorem step_x {s : Cmd} {σ : St F} {p : Bool} {y : S3072x512.Idx} (h : σ.x p y = XX I p y) : (step I σ s).x p y = XX I p y := by
  match s, p with
  | .deq false _, false => exact h
  | .deq true _, false => exact h
  | .dot false _, false => exact h
  | .dot true _, false => exact h
  | .quant false _ _, false => exact put_x I (.inr (put_x I (.inr h)))
  | .quant true _ _, false => exact h
  | .deq false _, true => exact h
  | .deq true _, true => exact h
  | .dot false _, true => exact h
  | .dot true _, true => exact h
  | .quant false _ _, true => exact h
  | .quant true _ _, true => exact put_x I (.inr (put_x I (.inr h)))

theorem step_y {s : Cmd} {σ : St F} {p : Bool} {y : S512x1024.Idx} (h : σ.y p y = YY I p y) : (step I σ s).y p y = YY I p y := by
  match s, p with
  | .deq false _, false => exact put_y I (.inr h)
  | .deq true _, false => exact h
  | .dot false _, false => exact h
  | .dot true _, false => exact h
  | .quant false _ _, false => exact h
  | .quant true _ _, false => exact h
  | .deq false _, true => exact h
  | .deq true _, true => exact put_y I (.inr h)
  | .dot false _, true => exact h
  | .dot true _, true => exact h
  | .quant false _ _, true => exact h
  | .quant true _ _, true => exact h

/-- The column of a group lies in the one or the other tile of its chunk. -/
abbrev chOf (g : Fin 24) : Fin 12 := ⟨g.val / 2, by omega⟩
theorem lo_or_hi (g : Fin 24) : g = lo (chOf g) ∨ g = hi (chOf g) := by
  rcases Nat.mod_two_eq_zero_or_one g.val with h | h
  · exact .inl (Fin.ext (by show g.val = g.val / 2 * 2; omega))
  · exact .inr (Fin.ext (by show g.val = g.val / 2 * 2 + 1; omega))

theorem quant_xt {σ : St F} {y : S1024x3072.Idx} : (step I σ (.quant (hOf (y 0)) (chOf (gOf (y 1))) (bOf (y 0)))).xt y = XT I y := by
  have key : ∀ p, hOf (y 0) = p → (step I σ (.quant p (chOf (gOf (y 1))) (bOf (y 0)))).xt y = XT I y := fun p hp => by
    rcases lo_or_hi (gOf (y 1)) with h | h
    · match p with
      | false => exact put_xt I (.inr (put_xt I (.inl ⟨hp, rfl, h⟩)))
      | true => exact put_xt I (.inr (put_xt I (.inl ⟨hp, rfl, h⟩)))
    · match p with
      | false => exact put_xt I (.inl ⟨hp, rfl, h⟩)
      | true => exact put_xt I (.inl ⟨hp, rfl, h⟩)
  exact key _ rfl

theorem quant_xs {σ : St F} {y : S1x8x3072.Idx} :
    (step I σ (.quant (decide (4 ≤ (y 1).val)) (chOf (gOf (y 2))) ⟨(y 1).val % 4, Nat.mod_lt _ (by decide)⟩)).xs y = XS I y := by
  have key : ∀ p, decide (4 ≤ (y 1).val) = p → (step I σ (.quant p (chOf (gOf (y 2))) ⟨(y 1).val % 4, Nat.mod_lt _ (by decide)⟩)).xs y = XS I y := fun p hp => by
    rcases lo_or_hi (gOf (y 2)) with h | h
    · match p with
      | false => exact put_xs I (.inr (put_xs I (.inl ⟨hp, rfl, h⟩)))
      | true => exact put_xs I (.inr (put_xs I (.inl ⟨hp, rfl, h⟩)))
    · match p with
      | false => exact put_xs I (.inl ⟨hp, rfl, h⟩)
      | true => exact put_xs I (.inl ⟨hp, rfl, h⟩)
  exact key _ rfl

theorem quant_x {σ : St F} {p : Bool} {y : S3072x512.Idx} : (step I σ (.quant p (chOf (gOf (y 0))) (b512 (y 1)))).x p y = XX I p y := by
  rcases lo_or_hi (gOf (y 0)) with h | h
  · match p with
    | false => exact put_x I (.inr (put_x I (.inl ⟨rfl, h⟩)))
    | true => exact put_x I (.inr (put_x I (.inl ⟨rfl, h⟩)))
  · match p with
    | false => exact put_x I (.inl ⟨rfl, h⟩)
    | true => exact put_x I (.inl ⟨rfl, h⟩)

theorem deq_y {σ : St F} {p : Bool} {y : S512x1024.Idx} : (step I σ (.deq p (b512 (y 0)))).y p y = YY I p y := by
  match p with
  | false => exact put_y I (.inl rfl)
  | true => exact put_y I (.inl rfl)

/-- What holds after one step of a list and is kept by every step holds after the list. -/
theorem run_of_mem {P : St F → Prop} (hk : ∀ σ s, P σ → P (step I σ s)) {s : Cmd} (hs : ∀ σ, P (step I σ s)) :
    ∀ (L : List Cmd) (σ : St F), (s ∈ L ∨ P σ) → P (run I L σ)
  | [], _, h => h.resolve_left List.not_mem_nil
  | s' :: L, σ, h => run_of_mem hk hs L (step I σ s') (by
      rcases h with h | h
      · rcases List.mem_cons.mp h with rfl | h
        · exact .inr (hs σ)
        · exact .inl h
      · exact .inr (hk σ s' h))

theorem on_keeps {p : Bool} {s : Cmd} (hs : s.on p) (σ : St F) :
    (step I σ s).out = σ.out ∧ (step I σ s).x (!p) = σ.x (!p) ∧ (step I σ s).y (!p) = σ.y (!p) := by
  match s, p, hs with
  | .deq false _, false, _ => exact ⟨rfl, rfl, rfl⟩
  | .deq true _, true, _ => exact ⟨rfl, rfl, rfl⟩
  | .quant false _ _, false, _ => exact ⟨rfl, rfl, rfl⟩
  | .quant true _ _, true, _ => exact ⟨rfl, rfl, rfl⟩

theorem run_on_keeps {p : Bool} : ∀ (L : List Cmd) (_ : ∀ s ∈ L, s.on p) (σ : St F),
    (run I L σ).out = σ.out ∧ (run I L σ).x (!p) = σ.x (!p) ∧ (run I L σ).y (!p) = σ.y (!p)
  | [], _, _ => ⟨rfl, rfl, rfl⟩
  | s :: L, h, σ => by
    have h1 := on_keeps I (h s (List.mem_cons_self ..)) σ
    have h2 := run_on_keeps L (fun s' hs' => h s' (List.mem_cons_of_mem _ hs')) (step I σ s)
    exact ⟨h2.1.trans h1.1, h2.2.1.trans h1.2.1, h2.2.2.trans h1.2.2⟩

theorem on_deqL (p : Bool) : ∀ s ∈ deqL p, s.on p := fun _ h => by
  obtain ⟨b, _, rfl⟩ := List.mem_map.mp h; rfl
theorem on_quantL (p : Bool) (c : Fin 12) : ∀ s ∈ quantL p c, s.on p := fun _ h => by
  obtain ⟨b, _, rfl⟩ := List.mem_map.mp h; rfl

theorem mem_deqL (p : Bool) (b : Fin 4) : Cmd.deq p b ∈ deqL p := List.mem_map.mpr ⟨b, List.mem_finRange b, rfl⟩
theorem mem_quantL (p : Bool) (c : Fin 12) (b : Fin 4) : Cmd.quant p c b ∈ quantL p c := List.mem_map.mpr ⟨b, List.mem_finRange b, rfl⟩

theorem quant_mem_both (p : Bool) (c : Fin 12) (b : Fin 4) : Cmd.quant p c b ∈ bothL p :=
  List.mem_append_right _ (List.mem_flatMap.mpr ⟨c, List.mem_finRange c, List.mem_append_left _ (mem_quantL p c b)⟩)
theorem quant_mem_alone (p : Bool) (c : Fin 12) (b : Fin 4) : Cmd.quant p c b ∈ aloneL p :=
  List.mem_append_right _ (List.mem_flatMap.mpr ⟨c, List.mem_finRange c, mem_quantL p c b⟩)
theorem deq_mem_both (p : Bool) (b : Fin 4) : Cmd.deq p b ∈ bothL p := List.mem_append_left _ (mem_deqL p b)
theorem deq_mem_alone (p : Bool) (b : Fin 4) : Cmd.deq p b ∈ aloneL p := List.mem_append_left _ (mem_deqL p b)

/-! ## The gradient -/

theorem step_dot (q : Bool) (c : Fin 12) (σ : St F) :
    (step I σ (.dot q c)).out = VecWindow.put σ.out ![c.val * 256, 0] S256x1024.size (dotOf σ.out (σ.x q) (σ.y q) c)
    ∧ (step I σ (.dot q c)).x q = σ.x q ∧ (step I σ (.dot q c)).y q = σ.y q := by
  match q with
  | false => exact ⟨rfl, rfl, rfl⟩
  | true => exact ⟨rfl, rfl, rfl⟩

theorem dotOf_at {O : S3072x1024.Idx → Elt F .f32} {X : S3072x512.Idx → Elt F .bf16} {Y : S512x1024.Idx → Elt F .bf16} {c c' : Fin 12}
    {j j' : S256x1024.Idx} (hc : c.val = c'.val) (h0 : (j 0).val = (j' 0).val) (h1 : (j 1).val = (j' 1).val) : dotOf O X Y c j = dotOf O X Y c' j' := by
  obtain rfl := Fin.ext hc
  congr 1; rw [eq_ix2 j, eq_ix2 j']; exact (ix2_inj _ _ _ _).mpr ⟨Fin.ext h0, Fin.ext h1⟩

/-- The chunk of a row of the gradient. -/
abbrev cOfRow (y : S3072x1024.Idx) : Fin 12 := ⟨(y 0).val / 256, by have := (y 0).isLt; change _ < 3072 at this; omega⟩

theorem put_dot_in {O : S3072x1024.Idx → Elt F .f32} {X : S3072x512.Idx → Elt F .bf16} {Y : S512x1024.Idx → Elt F .bf16} (y : S3072x1024.Idx) :
    VecWindow.put O ![(cOfRow y).val * 256, 0] S256x1024.size (dotOf O X Y (cOfRow y)) y = dotAll O X Y y := by
  have hy1 : (y 1).val < 1024 := (y 1).isLt
  refine put_eq (T := dotAll O X Y) (fun h => ?_) (.inl fun a => ?_)
  · refine dotOf_at rfl ?_ ?_
    · show (y 0).val - (y 0).val / 256 * 256 = (y 0).val % 256
      omega
    · show (y 1).val - 0 = (y 1).val
      omega
  · match a with
    | ⟨0, _⟩ =>
      show (y 0).val / 256 * 256 ≤ (y 0).val ∧ (y 0).val < (y 0).val / 256 * 256 + 256
      omega
    | ⟨1, _⟩ =>
      show 0 ≤ (y 1).val ∧ (y 1).val < 0 + 1024
      omega

theorem put_dot_out {O : S3072x1024.Idx → Elt F .f32} {w : S256x1024.Idx → Elt F .f32} {c : Fin 12} {y : S3072x1024.Idx} (h : cOfRow y ≠ c) :
    VecWindow.put O ![c.val * 256, 0] S256x1024.size w y = O y := by
  have h' : (y 0).val / 256 ≠ c.val := fun e => h (Fin.ext e)
  refine put_out (s := S3072x1024) 0 ?_
  show (y 0).val < c.val * 256 ∨ c.val * 256 + 256 ≤ (y 0).val
  omega

theorem dotAll_put {O : S3072x1024.Idx → Elt F .f32} {X : S3072x512.Idx → Elt F .bf16} {Y : S512x1024.Idx → Elt F .bf16} {w : S256x1024.Idx → Elt F .f32}
    {c : Fin 12} {y : S3072x1024.Idx} (h : cOfRow y ≠ c) :
    dotAll (VecWindow.put O ![c.val * 256, 0] S256x1024.size w) X Y y = dotAll O X Y y := by
  have h' : (y 0).val / 256 ≠ c.val := fun e => h (Fin.ext e)
  unfold dotAll dotOf
  rw [VecWindow.window_put_of_disjoint (s := S3072x1024) O ![c.val * 256, 0] S256x1024.size _ _ _ _ 0
    (by show (y 0).val / 256 * 256 + 256 ≤ c.val * 256 ∨ c.val * 256 + 256 ≤ (y 0).val / 256 * 256; omega)]

/-- Chunks of half `q`'s product, each after steps on the other half: the gradient with those chunks' products added. -/
theorem run_dots (q : Bool) (pre : Fin 12 → List Cmd) (hpre : ∀ c, ∀ s ∈ pre c, s.on (!q)) :
    ∀ (l : List (Fin 12)) (_ : l.Nodup) (σ : St F),
      (∀ y, (run I (l.flatMap fun c => pre c ++ [.dot q c]) σ).out y = if cOfRow y ∈ l then dotAll σ.out (σ.x q) (σ.y q) y else σ.out y)
      ∧ (run I (l.flatMap fun c => pre c ++ [.dot q c]) σ).x q = σ.x q ∧ (run I (l.flatMap fun c => pre c ++ [.dot q c]) σ).y q = σ.y q
  | [], _, σ => ⟨fun y => (if_neg List.not_mem_nil).symm, rfl, rfl⟩
  | c :: l, hl, σ => by
    have hk := run_on_keeps I (pre c) (hpre c) σ
    rw [Bool.not_not] at hk
    have hd := step_dot I q c (run I (pre c) σ)
    rw [hk.1, hk.2.1, hk.2.2] at hd
    have ih := run_dots q pre hpre l (List.nodup_cons.mp hl).2 (step I (run I (pre c) σ) (.dot q c))
    rw [List.flatMap_cons, run_append, run_append]
    refine ⟨fun y => ?_, ih.2.1.trans hd.2.1, ih.2.2.trans hd.2.2⟩
    refine (ih.1 y).trans ?_
    rw [hd.1, hd.2.1, hd.2.2]
    by_cases hy : cOfRow y = c
    · rw [if_neg (hy ▸ (List.nodup_cons.mp hl).1), if_pos (List.mem_cons.mpr (.inl hy))]
      obtain rfl := hy
      exact put_dot_in y
    · rw [dotAll_put hy, put_dot_out hy]
      by_cases hm : cOfRow y ∈ l
      · rw [if_pos hm, if_pos (List.mem_cons_of_mem _ hm)]
      · rw [if_neg hm, if_neg (fun h => (List.mem_cons.mp h).elim hy hm)]

/-! ## The lists -/

/-- After a half requantised beside the other half's product. -/
theorem run_both (p : Bool) (σ : St F) :
    (run I (bothL p) σ).out = dotAll σ.out (σ.x (!p)) (σ.y (!p)) ∧ (run I (bothL p) σ).x (!p) = σ.x (!p) ∧ (run I (bothL p) σ).y (!p) = σ.y (!p)
    ∧ (run I (bothL p) σ).x p = XX I p ∧ (run I (bothL p) σ).y p = YY I p := by
  have hk := run_on_keeps I (deqL p) (on_deqL p) σ
  have hd := run_dots I (!p) (quantL p) (fun c => by rw [Bool.not_not]; exact on_quantL p c) (List.finRange 12) (List.nodup_finRange 12) (run I (deqL p) σ)
  rw [hk.1, hk.2.1, hk.2.2, ← run_append] at hd
  refine ⟨funext fun y => (hd.1 y).trans (if_pos (List.mem_finRange _)), hd.2.1, hd.2.2, funext fun y => ?_, funext fun y => ?_⟩
  · exact run_of_mem I (P := fun σ => σ.x p y = XX I p y) (fun _ _ => step_x I) (fun _ => quant_x I) _ σ (.inl (quant_mem_both p _ _))
  · exact run_of_mem I (P := fun σ => σ.y p y = YY I p y) (fun _ _ => step_y I) (fun _ => deq_y I) _ σ (.inl (deq_mem_both p _))

/-- After a half requantised alone. -/
theorem run_alone (p : Bool) (σ : St F) :
    (run I (aloneL p) σ).out = σ.out ∧ (run I (aloneL p) σ).x p = XX I p ∧ (run I (aloneL p) σ).y p = YY I p := by
  refine ⟨(run_on_keeps I (p := p) (aloneL p) (fun s hs => ?_) σ).1, funext fun y => ?_, funext fun y => ?_⟩
  · rcases List.mem_append.mp hs with h | h
    · exact on_deqL p s h
    · obtain ⟨c, _, h⟩ := List.mem_flatMap.mp h
      exact on_quantL p c s h
  · exact run_of_mem I (P := fun σ => σ.x p y = XX I p y) (fun _ _ => step_x I) (fun _ => quant_x I) _ σ (.inl (quant_mem_alone p _ _))
  · exact run_of_mem I (P := fun σ => σ.y p y = YY I p y) (fun _ _ => step_y I) (fun _ => deq_y I) _ σ (.inl (deq_mem_alone p _))

/-- After a half's product. -/
theorem run_dots_all (p : Bool) (σ : St F) :
    (run I (dotsL p) σ).out = dotAll σ.out (σ.x p) (σ.y p) ∧ (run I (dotsL p) σ).x p = σ.x p ∧ (run I (dotsL p) σ).y p = σ.y p := by
  have hd := run_dots I p (fun _ => []) (fun _ _ h => absurd h List.not_mem_nil) (List.finRange 12) (List.nodup_finRange 12) σ
  exact ⟨funext fun y => (hd.1 y).trans (if_pos (List.mem_finRange _)), hd.2.1, hd.2.2⟩

/-- A list that requantises both halves leaves the point's codes and scales. -/
theorem run_codes {L : List Cmd} (hL : ∀ p c b, Cmd.quant p c b ∈ L) (σ : St F) : (run I L σ).xt = XT I ∧ (run I L σ).xs = XS I :=
  ⟨funext fun y => run_of_mem I (P := fun σ => σ.xt y = XT I y) (fun _ _ => step_xt I) (fun _ => quant_xt I) L σ (.inl (hL _ _ _)),
    funext fun y => run_of_mem I (P := fun σ => σ.xs y = XS I y) (fun _ _ => step_xs I) (fun _ => quant_xs I) L σ (.inl (hL _ _ _))⟩

/-- The first point. -/
theorem run_first (σ σ' : St F) (hx : σ'.xa = (run I (alone false []) σ).xa) (hy : σ'.ya = (run I (alone false []) σ).ya) :
    (run I (both true []) σ').out = dotAll σ'.out (XX I false) (YY I false)
    ∧ (run I (both true []) σ').xb = XX I true ∧ (run I (both true []) σ').yb = YY I true := by
  have ha := run_alone I false σ
  have hb := run_both I true σ'
  refine ⟨hb.1.trans ?_, hb.2.2.2.1, hb.2.2.2.2⟩
  show dotAll σ'.out σ'.xa σ'.ya = _
  rw [hx, hy]
  exact congrArg₂ (dotAll _) ha.2.1 ha.2.2

theorem run_first_codes (σ σ' : St F) (ht : σ'.xt = (run I (alone false []) σ).xt) (hs : σ'.xs = (run I (alone false []) σ).xs) :
    (run I (both true []) σ').xt = XT I ∧ (run I (both true []) σ').xs = XS I := by
  refine ⟨funext fun y => ?_, funext fun y => ?_⟩
  · refine run_of_mem I (P := fun σ => σ.xt y = XT I y) (fun _ _ => step_xt I) (fun _ => quant_xt I) (bothL true) σ' ?_
    cases hp : hOf (y 0) with
    | true => exact .inl (quant_mem_both _ _ _)
    | false =>
      have hm : Cmd.quant (hOf (y 0)) (chOf (gOf (y 1))) (bOf (y 0)) ∈ aloneL false := by rw [hp]; exact quant_mem_alone _ _ _
      refine .inr (by
        rw [ht]
        exact run_of_mem I (P := fun σ => σ.xt y = XT I y) (fun _ _ => step_xt I) (fun _ => quant_xt I) (aloneL false) σ (.inl hm))
  · refine run_of_mem I (P := fun σ => σ.xs y = XS I y) (fun _ _ => step_xs I) (fun _ => quant_xs I) (bothL true) σ' ?_
    cases hp : decide (4 ≤ (y 1).val) with
    | true => exact .inl (quant_mem_both _ _ _)
    | false =>
      have hm : Cmd.quant (decide (4 ≤ (y 1).val)) (chOf (gOf (y 2))) ⟨(y 1).val % 4, Nat.mod_lt _ (by decide)⟩ ∈ aloneL false := by
        rw [hp]; exact quant_mem_alone _ _ _
      refine .inr (by
        rw [hs]
        exact run_of_mem I (P := fun σ => σ.xs y = XS I y) (fun _ _ => step_xs I) (fun _ => quant_xs I) (aloneL false) σ (.inl hm))

theorem quant_mem_mid (p : Bool) (c : Fin 12) (b : Fin 4) (L : List Cmd) : Cmd.quant p c b ∈ bothL false ++ (bothL true ++ L) := by
  cases p
  · exact List.mem_append_left _ (quant_mem_both _ _ _)
  · exact List.mem_append_right _ (List.mem_append_left _ (quant_mem_both _ _ _))

/-- A point between the first and the last. -/
theorem run_mid (σ : St F) :
    (run I (both false (both true [])) σ).out = dotAll (dotAll σ.out σ.xb σ.yb) (XX I false) (YY I false)
    ∧ (run I (both false (both true [])) σ).xb = XX I true ∧ (run I (both false (both true [])) σ).yb = YY I true
    ∧ (run I (both false (both true [])) σ).xt = XT I ∧ (run I (both false (both true [])) σ).xs = XS I := by
  have h : run I (both false (both true [])) σ = run I (bothL true) (run I (bothL false) σ) := by
    rw [both_eq false, run_append, both_eq true, List.append_nil]
  have ha := run_both I false σ
  have hb := run_both I true (run I (bothL false) σ)
  have hc := run_codes I (fun p c b => quant_mem_mid p c b []) σ
  refine ⟨?_, ?_, ?_, hc.1, hc.2⟩
  · rw [h, hb.1]
    show dotAll _ ((run I (bothL false) σ).x false) ((run I (bothL false) σ).y false) = _
    rw [ha.1, ha.2.2.2.1, ha.2.2.2.2]; rfl
  · rw [h]; exact hb.2.2.2.1
  · rw [h]; exact hb.2.2.2.2

/-- The last point. -/
theorem run_last (σ : St F) :
    (run I (both false (both true (dots true []))) σ).out = dotAll (dotAll (dotAll σ.out σ.xb σ.yb) (XX I false) (YY I false)) (XX I true) (YY I true)
    ∧ (run I (both false (both true (dots true []))) σ).xb = XX I true ∧ (run I (both false (both true (dots true []))) σ).yb = YY I true
    ∧ (run I (both false (both true (dots true []))) σ).xt = XT I ∧ (run I (both false (both true (dots true []))) σ).xs = XS I := by
  have h : run I (both false (both true (dots true []))) σ = run I (dotsL true) (run I (both false (both true [])) σ) := by
    rw [both_eq false, both_eq true, dots_eq, List.append_nil, ← List.append_assoc, run_append, both_eq false, both_eq true, List.append_nil]
  have hm := run_mid I σ
  have hd := run_dots_all I true (run I (both false (both true [])) σ)
  have hc := run_codes I (fun p c b => quant_mem_mid p c b (dotsL true ++ [])) σ
  refine ⟨?_, ?_, ?_, hc.1, hc.2⟩
  · rw [h, hd.1]
    show dotAll _ (run I (both false (both true [])) σ).xb (run I (both false (both true [])) σ).yb = _
    rw [hm.1, hm.2.1, hm.2.2.1]
  · rw [h]; exact hd.2.1.trans hm.2.1
  · rw [h]; exact hd.2.2.trans hm.2.2.1

end Cert.Kernel.Steps
-- ==== Proof.Kernel.Point.lean ====
/- The body at one point of the grid: the first, one between, the last. -/
module

public import proofs.«01_k».proof.Proof.Kernel.Body
public import proofs.«01_k».proof.Proof.Kernel.State

@[expose] public section

set_option maxRecDepth 16384

noncomputable section

namespace Cert.Kernel.Steps

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (I : In F) (𝒱 : Variants) (c : Dev nD) (bd : Option 𝒱.V)

variable (i : grid0.Coords)
  {arg1 : Memref sig .tc .vmem S1024x3072 .fp8e4m3} {harg1 : arg1.IsWhole} {arg2 : Memref sig .tc .vmem S1x1024x24 .f32} {harg2 : arg2.IsWhole}
  {arg3 : Memref sig .tc .vmem S1024x1024 .fp8e5m2} {harg3 : arg3.IsWhole} {arg4 : Memref sig .tc .vmem S1x8x1024 .f32} {harg4 : arg4.IsWhole}
  {arg6 : Memref sig .tc .vmem S3072x1024 .f32} {harg6 : arg6.IsWhole}
  {arg7 : Memref sig .tc .vmem S1024x3072 .fp8e4m3} {harg7 : arg7.IsWhole} {arg8 : Memref sig .tc .vmem S1x8x3072 .f32} {harg8 : arg8.IsWhole}
  {arg9 : Memref sig .tc .vmem S3072x512 .bf16} {harg9 : arg9.IsWhole} {arg10 : Memref sig .tc .vmem S3072x512 .bf16} {harg10 : arg10.IsWhole}
  {arg11 : Memref sig .tc .vmem S512x1024 .bf16} {harg11 : arg11.IsWhole} {arg12 : Memref sig .tc .vmem S512x1024 .bf16} {harg12 : arg12.IsWhole}

theorem wp_mid (h1 : ¬ k0_cond1 i = 1#1) (h2 : k0_cond2 i = 1#1) (h3 : ¬ k0_cond3 i = 1#1) (σ : St F) {Q : PUnit.{1} → sProp 𝕄} :
    iprop(ins I c (bufs arg1 arg2 arg3 arg4 arg6 arg7 harg7 arg8 arg9 harg9 arg10 harg10 arg11 harg11 arg12 harg12) ∗ sts c (bufs arg1 arg2 arg3 arg4 arg6 arg7 harg7 arg8 arg9 harg9 arg10 harg10 arg11 harg11 arg12 harg12) σ ∗ owns (c : Thread nD τ) arg6 fullShare σ.out)
      ⊢ iprop((ins I c (bufs arg1 arg2 arg3 arg4 arg6 arg7 harg7 arg8 arg9 harg9 arg10 harg10 arg11 harg11 arg12 harg12) -∗ sts c (bufs arg1 arg2 arg3 arg4 arg6 arg7 harg7 arg8 arg9 harg9 arg10 harg10 arg11 harg11 arg12 harg12) (run I (both false (both true [])) σ)
            -∗ owns (c : Thread nD τ) arg6 fullShare (run I (both false (both true [])) σ).out -∗ Q ⟨⟩)
        -∗ wp frame (wpE (defs₀ (F := F)) 𝒱 (c : Thread nD τ) bd) Set.univ (cc0_fp8_weight_grad (F := F) i arg1 harg1 arg2 harg2 arg3 harg3 arg4 harg4 (Memref.whole main_arg4) (Memref.isWhole_whole _) arg6 harg6 arg7 harg7 arg8 harg8 arg9 harg9 arg10 harg10 arg11 harg11 arg12 harg12 cc0_scratch4) Q) := by
  rw [← mid_eq.{1} (h1 := h1) (h2 := h2) (h3 := h3)]
  iintro H Hk
  iapply (wp_denote I 𝒱 c bd) $$ H
  iintro Hi Hs Ho
  sl_step
  iapply Hk $$ Hi Hs Ho

theorem wp_last (h1 : ¬ k0_cond1 i = 1#1) (h2 : k0_cond2 i = 1#1) (h3 : k0_cond3 i = 1#1) (σ : St F) {Q : PUnit.{1} → sProp 𝕄} :
    iprop(ins I c (bufs arg1 arg2 arg3 arg4 arg6 arg7 harg7 arg8 arg9 harg9 arg10 harg10 arg11 harg11 arg12 harg12) ∗ sts c (bufs arg1 arg2 arg3 arg4 arg6 arg7 harg7 arg8 arg9 harg9 arg10 harg10 arg11 harg11 arg12 harg12) σ ∗ owns (c : Thread nD τ) arg6 fullShare σ.out)
      ⊢ iprop((ins I c (bufs arg1 arg2 arg3 arg4 arg6 arg7 harg7 arg8 arg9 harg9 arg10 harg10 arg11 harg11 arg12 harg12) -∗ sts c (bufs arg1 arg2 arg3 arg4 arg6 arg7 harg7 arg8 arg9 harg9 arg10 harg10 arg11 harg11 arg12 harg12) (run I (both false (both true (dots true []))) σ)
            -∗ owns (c : Thread nD τ) arg6 fullShare (run I (both false (both true (dots true []))) σ).out -∗ Q ⟨⟩)
        -∗ wp frame (wpE (defs₀ (F := F)) 𝒱 (c : Thread nD τ) bd) Set.univ (cc0_fp8_weight_grad (F := F) i arg1 harg1 arg2 harg2 arg3 harg3 arg4 harg4 (Memref.whole main_arg4) (Memref.isWhole_whole _) arg6 harg6 arg7 harg7 arg8 harg8 arg9 harg9 arg10 harg10 arg11 harg11 arg12 harg12 cc0_scratch4) Q) := by
  rw [← last_eq.{1} (h1 := h1) (h2 := h2) (h3 := h3)]
  iintro H Hk
  iapply (wp_denote I 𝒱 c bd) $$ H
  iintro Hi Hs Ho
  sl_step
  iapply Hk $$ Hi Hs Ho

/-- The first point: the gradient's buffer is lent to the transfer that fills it while the first half is requantised. -/
theorem wp_first (hN : 0 < arg6.view.dmaCredit) (h1 : k0_cond1 i = 1#1) (h2 : ¬ k0_cond2 i = 1#1) (h3 : ¬ k0_cond3 i = 1#1) (σ : St F)
    {G : S3072x1024.Idx → Elt F .f32} {d : S3072x1024.Idx → Elt F .f32} {W : Waits sig Unit} {Q : PUnit.{1} → sProp 𝕄} :
    iprop(ins I c (bufs arg1 arg2 arg3 arg4 arg6 arg7 harg7 arg8 arg9 harg9 arg10 harg10 arg11 harg11 arg12 harg12) ∗ sts c (bufs arg1 arg2 arg3 arg4 arg6 arg7 harg7 arg8 arg9 harg9 arg10 harg10 arg11 harg11 arg12 harg12) σ ∗ owns (c : Thread nD τ) arg6 fullShare d ∗ owns (c : Thread nD τ) (Memref.whole main_arg4) fullShare G
        ∗ semVal ((c : Thread nD τ), SemLoc.dma cc0_scratch4.sem) 0 ∗ owes (c : Thread nD τ) 0 W)
      ⊢ iprop((ins I c (bufs arg1 arg2 arg3 arg4 arg6 arg7 harg7 arg8 arg9 harg9 arg10 harg10 arg11 harg11 arg12 harg12) -∗ sts c (bufs arg1 arg2 arg3 arg4 arg6 arg7 harg7 arg8 arg9 harg9 arg10 harg10 arg11 harg11 arg12 harg12) (run I (both true []) { run I (alone false []) σ with out := G })
            -∗ owns (c : Thread nD τ) arg6 fullShare (run I (both true []) { run I (alone false []) σ with out := G }).out
            -∗ owns (c : Thread nD τ) (Memref.whole main_arg4) fullShare G
            -∗ semVal ((c : Thread nD τ), SemLoc.dma cc0_scratch4.sem) 0 -∗ (∃ W', owes (c : Thread nD τ) 0 W') -∗ Q ⟨⟩)
        -∗ wp frame (wpE (defs₀ (F := F)) 𝒱 (c : Thread nD τ) bd) Set.univ (cc0_fp8_weight_grad (F := F) i arg1 harg1 arg2 harg2 arg3 harg3 arg4 harg4 (Memref.whole main_arg4) (Memref.isWhole_whole _) arg6 harg6 arg7 harg7 arg8 harg8 arg9 harg9 arg10 harg10 arg11 harg11 arg12 harg12 cc0_scratch4) Q) := by
  rw [← first_eq.{1, 1} (h1 := h1) (h2 := h2) (h3 := h3)]
  iintro ⟨Hi, Hs, Ho, Hg, Hv, HW⟩ Hk
  unfold owns
  icases Ho with ⟨%fd, %hfd, Ho⟩
  icases Hg with ⟨%fg, %hfg, Hg⟩
  iapply (Transfers.wp_dmaLocal (countersEmb (U := Pipeline.UD sig nD τ)) 𝒱 (c : Thread nD τ) bd () arg6.view.dmaCredit rfl hN (Finset.Subset.refl _)) $$ [Ho Hg Hv]
  · iframe
  iintro Hf
  iapply (wp_denote_quiet I 𝒱 c bd (alone false []) (quiet_alone false)) $$ [Hi Hs]
  · iframe
  iintro Hi Hs
  iapply (Transfers.wp_waitLocal (countersEmb (U := Pipeline.UD sig nD τ)) 𝒱 (c : Thread nD τ) bd () rfl) $$ [Hf HW]
  · iframe
  iintro ⟨⟨Ho, Hg⟩, Hv, HW⟩
  iapply (wp_denote I 𝒱 c bd (both true []) { run I (alone false []) σ with out := G }) $$ [Hi Hs Ho]
  · isplitl [Hi]; · iexact Hi
    isplitl [Hs]; · iexact Hs
    unfold owns; iexists _; isplitr
    swap; · iexact Ho
    ipureintro
    rw [View.read_write_univ]; exact hfg
  iintro Hi Hs Ho
  sl_step
  iapply Hk $$ Hi Hs [Ho] [Hg] Hv
  · unfold owns; iexact Ho
  · iexists _; isplitr
    swap; · iexact Hg
    ipureintro; exact hfg
  iexists _; iexact HW

end Cert.Kernel.Steps
-- ==== Proof.Kernel.Frame.lean ====
/- The run: what the pipeline carries from point to point, the body at every point, the arrays at the end.

   Between points the gradient's staging buffer holds the sum so far, the second pair of factor buffers the half the
   point before left for this one, and the transfer's semaphore stands at zero. -/
module

public import proofs.«01_k».proof.Proof.Gen.Kernel.Frame
public import proofs.«01_k».proof.Proof.Kernel.Point

@[expose] public section

set_option maxRecDepth 16384

noncomputable section

namespace Cert.Kernel.Steps

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the pipeline carries -/

/-- The point of number `n` (taken modulo the grid's size). -/
def pt (n : ℕ) : Fin cfg0.N := ⟨n % 80, Nat.lt_of_lt_of_eq (Nat.mod_lt _ (by decide)) N_0.symm⟩

theorem pt_val (t : Fin cfg0.N) : pt t.val = t := Fin.ext (Nat.mod_eq_of_lt (Nat.lt_of_lt_of_eq t.isLt N_0))

/-- The four input blocks of a point. -/
def inAt (c : Dev nD) (t : Fin cfg0.N) : In F := ⟨iblk m c 0 t, iblk m c 1 t, iblk m c 2 t, iblk m c 3 t⟩

/-- The initial gradient with the halves up to the first half of point `n` added. -/
def gradTo (c : Dev nD) : ℕ → (S3072x1024.Idx → Elt F .f32)
  | 0 => dotAll (V m c main_arg4) (XX (inAt m c (pt 0)) false) (YY (inAt m c (pt 0)) false)
  | n + 1 => dotAll (dotAll (gradTo c n) (XX (inAt m c (pt n)) true) (YY (inAt m c (pt n)) true))
      (XX (inAt m c (pt (n + 1))) false) (YY (inAt m c (pt (n + 1))) false)

/-- The gradient's buffer after point `n`: the last point adds its second half as well. -/
def gradAt (c : Dev nD) (n : ℕ) : S3072x1024.Idx → Elt F .f32 :=
  if n = 79 then dotAll (gradTo m c 79) (XX (inAt m c (pt 79)) true) (YY (inAt m c (pt 79)) true) else gradTo m c n

/-- What is carried to point `n`, besides the staged blocks. -/
def inv (c : Dev nD) (n : ℕ) : sProp 𝕄 :=
  iprop((∃ xa xb ya yb, ⌜∀ k, n = k + 1 → xb = XX (inAt m c (pt k)) true ∧ yb = YY (inAt m c (pt k)) true⌝
      ∗ owns (c : Thread nD τ) (Memref.whole cc0_scratch0) fullShare xa ∗ owns (c : Thread nD τ) (Memref.whole cc0_scratch1) fullShare xb
      ∗ owns (c : Thread nD τ) (Memref.whole cc0_scratch2) fullShare ya ∗ owns (c : Thread nD τ) (Memref.whole cc0_scratch3) fullShare yb)
    ∗ (∃ r, prngReg c r) ∗ semVal ((c : Thread nD τ), SemLoc.dma cc0_scratch4.sem) 0
    ∗ owns (c : Thread nD τ) (Memref.whole main_arg4) fullShare (V m c main_arg4))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => gradAt m c t.val
    | ⟨5, _⟩ => XT (inAt m c t)
    | ⟨6, _⟩ => XS (inAt m c t)
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = gradAt m c t.val := by dsimp only [dats]
theorem after_5 (c : Dev nD) (t : Fin cfg0.N) : (dats m 0 c).after 5 t = XT (inAt m c t) := by dsimp only [dats]
theorem after_6 (c : Dev nD) (t : Fin cfg0.N) : (dats m 0 c).after 6 t = XS (inAt m c t) := by dsimp only [dats]

/-! ## What the staging buffers hold before a point -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- Every point stores to the gradient's buffer, and to both the codes' and the scales'. -/
theorem live_4 : ∀ i : cfg0.grid.Coords, cfg0.idle 4 i = false := (by decide +kernel : ∀ i : grid0.Coords, idle0 4 i = false)
theorem live_5 : ∀ i : cfg0.grid.Coords, cfg0.idle 5 i = false := (by decide +kernel : ∀ i : grid0.Coords, idle0 5 i = false)

/-- After the first point the gradient's buffer holds the sum so far. -/
theorem before_4 (c : Dev nD) (t : Fin cfg0.N) (k : ℕ) (hk : t.val = k + 1) (d) : (dats m 0 c).before 4 t d = gradTo m c k := by
  have hN := Nat.lt_of_lt_of_eq t.isLt N_0
  rw [(dats m 0 c).before_out_kept 4 rfl t (by omega) (by
      rw [← Bool.not_eq_true]; intro h
      have h' : (t.val - 1) % 80 = 79 := (flush0_4 _).1 h
      omega) live_4 (fun _ _ => rfl), after_4]
  unfold gradAt
  have : t.val - 1 = k := by omega
  simp only [this]
  rw [if_neg (by omega)]

/-! ## The body at a point -/

theorem cond_1 : ∀ t : Fin cfg0.N, k0_cond1 (grid0.coords t) = 1#1 ↔ t.val = 0 := (by decide +kernel : ∀ t : Fin grid0.N, k0_cond1 (grid0.coords t) = 1#1 ↔ t.val = 0)
theorem cond_2 : ∀ t : Fin cfg0.N, k0_cond2 (grid0.coords t) = 1#1 ↔ t.val ≠ 0 := (by decide +kernel : ∀ t : Fin grid0.N, k0_cond2 (grid0.coords t) = 1#1 ↔ t.val ≠ 0)
theorem cond_3 : ∀ t : Fin cfg0.N, k0_cond3 (grid0.coords t) = 1#1 ↔ t.val = 79 := (by decide +kernel : ∀ t : Fin grid0.N, k0_cond3 (grid0.coords t) = 1#1 ↔ t.val = 79)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The buffers at a point. -/
abbrev bufsAt (t : Fin cfg0.N) : Bufs :=
  bufs (st0_0 t) (st0_1 t) (st0_2 t) (st0_3 t) (st0_4 t) (st0_5 t) (hstage0_5 ((cfg0.slots t 5).cast nbuf0_5)) (st0_6 t)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)

/-- The obligation's post from what the steps leave. -/
theorem post_of (c : Dev nD) (t : Fin cfg0.N) (σ : St F) (ho : σ.out = gradAt m c t.val)
    (hx : σ.xb = XX (inAt m c t) true) (hy : σ.yb = YY (inAt m c t) true) (ht : σ.xt = XT (inAt m c t)) (hs : σ.xs = XS (inAt m c t)) :
    iprop(ins (inAt m c t) c (bufsAt t) ∗ sts c (bufsAt t) σ ∗ owns (c : Thread nD τ) (st0_4 t) fullShare σ.out
        ∗ owns (c : Thread nD τ) (Memref.whole main_arg4) fullShare (V m c main_arg4) ∗ (∃ r, prngReg c r)
        ∗ semVal ((c : Thread nD τ), SemLoc.dma cc0_scratch4.sem) 0 ∗ (∃ W, owes (c : Thread nD τ) 0 W))
      ⊢ bodyPost m c t := by
  unfold bodyPost
  rw [after_0, after_1, after_2, after_3, after_4, after_5, after_6, ← ho, ← ht, ← hs]
  rw [show (dats m 0 c).Φ t.succ = inv m c (t.val + 1) from rfl]
  unfold Dat.owesAt Pipeline.owesWithin
  rw [show (dats m 0 c).owed t.succ = 0 from rfl]
  unfold ins sts inv
  iintro ⟨⟨H0, H1, H2, H3⟩, ⟨H5, H6, Ha, Hb, Hc, Hd⟩, H4, Hg, Hr, Hv, ⟨%W, HW⟩⟩
  isplitl [Ha Hb Hc Hd Hr Hv Hg]
  · isplitl [Ha Hb Hc Hd]
    · iexists σ.xa, σ.xb, σ.ya, σ.yb
      isplitr
      · ipureintro
        intro k hk
        obtain rfl : t.val = k := by omega
        rw [pt_val]; exact ⟨hx, hy⟩
      isplitl [Ha]; · iexact Ha
      isplitl [Hb]; · iexact Hb
      isplitl [Hc]; · iexact Hc
      iexact Hd
    isplitl [Hr]; · iexact Hr
    isplitl [Hv]; · iexact Hv
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

theorem sound_body (c : Dev nD) (t : Fin cfg0.N) :
    bodyPre m c t ⊢ wp frame (wpE (defs₀ (F := F)) Variants.none c none) Set.univ (bodyAt0 t) (fun _ => bodyPost m c t) := by
  have hN := Nat.lt_of_lt_of_eq t.isLt N_0
  unfold bodyPre bodyAt0
  simp only [before_0, before_1, before_2, before_3]
  rw [show (dats m 0 c).Φ t.castSucc = inv m c t.val from rfl]
  unfold Dat.owesAt Pipeline.owesWithin
  rw [show (dats m 0 c).owed t.castSucc = 0 from rfl]
  unfold inv
  iintro ⟨⟨⟨%xa, %xb, %ya, %yb, %hb, Ha, Hb, Hc, Hd⟩, Hr, Hv, Hg⟩, ⟨%W, -, HW⟩, ⟨%d0, H0⟩, ⟨%d1, H1⟩, ⟨%d2, H2⟩, ⟨%d3, H3⟩, ⟨%d4, H4⟩, ⟨%d5, H5⟩, ⟨%d6, H6⟩⟩
  by_cases h0 : t.val = 0
  · iapply (wp_first (inAt m c t) Variants.none c none (grid0.coords t) (View.dmaCredit_pos _ (by decide)) ((cond_1 t).2 h0) (fun h => (cond_2 t).1 h h0)
      (fun h => by have := (cond_3 t).1 h; omega) ⟨V m c main_arg4, (dats m 0 c).before 5 t d5, (dats m 0 c).before 6 t d6, xa, xb, ya, yb⟩) $$ [H0 H1 H2 H3 H4 H5 H6 Ha Hb Hc Hd Hv Hg HW]
    · unfold ins sts
      isplitl [H0 H1 H2 H3]
      · isplitl [H0]; · iexact H0
        isplitl [H1]; · iexact H1
        isplitl [H2]; · iexact H2
        iexact H3
      isplitl [H5 H6 Ha Hb Hc Hd]
      · isplitl [H5]; · iexact H5
        isplitl [H6]; · iexact H6
        isplitl [Ha]; · iexact Ha
        isplitl [Hb]; · iexact Hb
        isplitl [Hc]; · iexact Hc
        iexact Hd
      isplitl [H4]; · iexact H4
      isplitl [Hg]; · iexact Hg
      isplitl [Hv]; · iexact Hv
      iexact HW
    iintro Hi Hs Ho Hg Hv HW
    have e := run_first (inAt m c t) ⟨V m c main_arg4, (dats m 0 c).before 5 t d5, (dats m 0 c).before 6 t d6, xa, xb, ya, yb⟩
      { run (inAt m c t) (alone false []) ⟨V m c main_arg4, (dats m 0 c).before 5 t d5, (dats m 0 c).before 6 t d6, xa, xb, ya, yb⟩ with out := V m c main_arg4 } rfl rfl
    have e' := run_first_codes (inAt m c t) ⟨V m c main_arg4, (dats m 0 c).before 5 t d5, (dats m 0 c).before 6 t d6, xa, xb, ya, yb⟩
      { run (inAt m c t) (alone false []) ⟨V m c main_arg4, (dats m 0 c).before 5 t d5, (dats m 0 c).before 6 t d6, xa, xb, ya, yb⟩ with out := V m c main_arg4 } rfl rfl
    iapply (post_of m c t _ (e.1.trans (by
      unfold gradAt; rw [if_neg (by omega), h0]
      show _ = dotAll _ _ _
      rw [show pt 0 = t from by rw [← h0]; exact pt_val t])) e.2.1 e.2.2 e'.1 e'.2)
    isplitl [Hi]; · iexact Hi
    isplitl [Hs]; · iexact Hs
    isplitl [Ho]; · iexact Ho
    isplitl [Hg]; · iexact Hg
    isplitl [Hr]; · iexact Hr
    isplitl [Hv]; · iexact Hv
    iexact HW
  obtain ⟨k, hk⟩ : ∃ k, t.val = k + 1 := ⟨t.val - 1, by omega⟩
  obtain ⟨rfl, rfl⟩ := hb k hk
  have hp : pt (k + 1) = t := by rw [← hk]; exact pt_val t
  rw [before_4 m c t k hk]
  by_cases h9 : t.val = 79
  · have e := run_last (inAt m c t) ⟨gradTo m c k, (dats m 0 c).before 5 t d5, (dats m 0 c).before 6 t d6, xa, XX (inAt m c (pt k)) true, ya, YY (inAt m c (pt k)) true⟩
    iapply (wp_last (inAt m c t) Variants.none c none (grid0.coords t) (fun h => h0 ((cond_1 t).1 h)) ((cond_2 t).2 h0)
      ((cond_3 t).2 h9) ⟨gradTo m c k, (dats m 0 c).before 5 t d5, (dats m 0 c).before 6 t d6, xa, XX (inAt m c (pt k)) true, ya, YY (inAt m c (pt k)) true⟩) $$ [H0 H1 H2 H3 H4 H5 H6 Ha Hb Hc Hd]
    · unfold ins sts
      isplitl [H0 H1 H2 H3]
      · isplitl [H0]; · iexact H0
        isplitl [H1]; · iexact H1
        isplitl [H2]; · iexact H2
        iexact H3
      isplitl [H5 H6 Ha Hb Hc Hd]
      · isplitl [H5]; · iexact H5
        isplitl [H6]; · iexact H6
        isplitl [Ha]; · iexact Ha
        isplitl [Hb]; · iexact Hb
        isplitl [Hc]; · iexact Hc
        iexact Hd
      iexact H4
    iintro Hi Hs Ho
    iapply (post_of m c t _ (e.1.trans (by
      unfold gradAt; rw [if_pos h9]
      obtain rfl : k = 78 := by omega
      show _ = dotAll (dotAll _ _ _) _ _
      rw [show pt 79 = t from hp])) e.2.1 e.2.2.1 e.2.2.2.1 e.2.2.2.2)
    isplitl [Hi]; · iexact Hi
    isplitl [Hs]; · iexact Hs
    isplitl [Ho]; · iexact Ho
    isplitl [Hg]; · iexact Hg
    isplitl [Hr]; · iexact Hr
    isplitl [Hv]; · iexact Hv
    iexists _; iexact HW
  · have e := run_mid (inAt m c t) ⟨gradTo m c k, (dats m 0 c).before 5 t d5, (dats m 0 c).before 6 t d6, xa, XX (inAt m c (pt k)) true, ya, YY (inAt m c (pt k)) true⟩
    iapply (wp_mid (inAt m c t) Variants.none c none (grid0.coords t) (fun h => h0 ((cond_1 t).1 h)) ((cond_2 t).2 h0)
      (fun h => h9 ((cond_3 t).1 h)) ⟨gradTo m c k, (dats m 0 c).before 5 t d5, (dats m 0 c).before 6 t d6, xa, XX (inAt m c (pt k)) true, ya, YY (inAt m c (pt k)) true⟩) $$ [H0 H1 H2 H3 H4 H5 H6 Ha Hb Hc Hd]
    · unfold ins sts
      isplitl [H0 H1 H2 H3]
      · isplitl [H0]; · iexact H0
        isplitl [H1]; · iexact H1
        isplitl [H2]; · iexact H2
        iexact H3
      isplitl [H5 H6 Ha Hb Hc Hd]
      · isplitl [H5]; · iexact H5
        isplitl [H6]; · iexact H6
        isplitl [Ha]; · iexact Ha
        isplitl [Hb]; · iexact Hb
        isplitl [Hc]; · iexact Hc
        iexact Hd
      iexact H4
    iintro Hi Hs Ho
    iapply (post_of m c t _ (e.1.trans (by
      unfold gradAt; rw [if_neg h9, hk]
      show _ = dotAll (dotAll _ _ _) _ _
      rw [hp])) e.2.1 e.2.2.1 e.2.2.2.1 e.2.2.2.2)
    isplitl [Hi]; · iexact Hi
    isplitl [Hs]; · iexact Hs
    isplitl [Ho]; · iexact Ho
    isplitl [Hg]; · iexact Hg
    isplitl [Hr]; · iexact Hr
    isplitl [Hv]; · iexact Hv
    iexists _; iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  rw [live_4, live_5]
  exact triple_restated (sound_body m c t) rfl .rfl fun _ => .rfl

/-! ## The run -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's one semaphore, and the operand its transfer reads. -/
abbrev osem0 : Fin 1 → SemLoc sig := fun j => (![SemLoc.dma 13] : Fin 1 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch4.sem) 0 := by
  rw [Pipeline.ownSems0_eq_of_list c osem0 [0] (by decide) (by decide)]; rfl
def H0 : Finset (Ref sig .tc) := {main_arg4}
theorem H0_sub : H0 ⊆ Pipeline.restRefs sig spec0 := by decide
theorem hbm_eq (c : Dev nD) :
    (bigSep H0 (fun b => ((c : Thread nD τ).loc b) ↦{fullShare} V m c b) : sProp 𝕄)
      = owns (c : Thread nD τ) (Memref.whole main_arg4) fullShare (V m c main_arg4) := by
  rw [owns_whole, BI.bigSep_eq_bigSepL_of_eq [main_arg4] (by decide) (by decide)]; rfl

theorem inv_in (c : Dev nD) : Pipeline.ΦD osem0 spec0 H0 (V m) c ⊢ inv m c 0 := by
  unfold Pipeline.ΦD inv
  rw [scopedRest0_eq, ownSems0_eq, hbm_eq]
  simp only [owns_whole]
  iintro ⟨⟨⟨%fa, Ha⟩, ⟨%fb, Hb⟩, ⟨%fc, Hc⟩, ⟨%fd, Hd⟩⟩, Hr, Hv, Hg⟩
  isplitl [Ha Hb Hc Hd]
  · iexists fa, fb, fc, fd
    isplitr
    · ipureintro; intro k hk; omega
    isplitl [Ha]; · iexact Ha
    isplitl [Hb]; · iexact Hb
    isplitl [Hc]; · iexact Hc
    iexact Hd
  isplitl [Hr]; · iexact Hr
  isplitl [Hv]; · iexact Hv
  iexact Hg

theorem inv_out (c : Dev nD) (n : ℕ) : inv m c n ⊢ Pipeline.ΦD osem0 spec0 H0 (V m) c := by
  unfold Pipeline.ΦD inv
  rw [scopedRest0_eq, ownSems0_eq, hbm_eq]
  simp only [owns_whole]
  iintro ⟨⟨%fa, %fb, %fc, %fd, -, Ha, Hb, Hc, Hd⟩, Hr, Hv, Hg⟩
  isplitl [Ha Hb Hc Hd]
  · isplitl [Ha]; · iexists fa; iexact Ha
    isplitl [Hb]; · iexists fb; iexact Hb
    isplitl [Hc]; · iexists fc; iexact Hc
    iexists fd; iexact Hd
  isplitl [Hr]; · iexact Hr
  isplitl [Hv]; · iexact Hv
  iexact Hg

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => inv_in m c) (hout := fun c => inv_out m c _)

/-- The arguments end unchanged, at a run of the data above. -/
theorem args_of (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_of m r h.1, h.2⟩) (run_main m ρ)

end Cert.Kernel.Steps
-- ==== Proof.KernelIdeal.Cmds.lean ====
/- The kernel's body as a list of three kinds of steps.

   One grid point works on 1024 tokens, as two halves of 512, each of four blocks of 128 tokens and twelve chunks
   of 256 columns of `x`. A step dequantises one block of `dy` into a buffer, or requantises one chunk of one block
   of `x` (two tiles of 128 columns: codes, scales, and the transposed tile for the product), or adds one chunk's
   product into the weight gradient. `denote` runs a list of steps; `Body.lean` shows the printed body runs such
   lists, so that what is proved of one step, at symbolic coordinates, is proved of the whole body. -/
module

public import proofs.«01_k».proof.Proof.Gen.KernelIdeal.Frame

@[expose] public section

set_option maxRecDepth 16384

noncomputable section

namespace Cert.KernelIdeal.Steps

open Idealize.ShloMosaic Idealize.SL.Sem
open Cert.KernelIdeal Cert.KernelIdeal.Gen

variable {F : FTy → Type} [FloatOps F]

/-- The first of the two halves' block of 128 tokens: 0 or 4. -/
abbrev half (p : Bool) : ℕ := match p with | false => 0 | true => 4

theorem half_le (p : Bool) : half p = 0 ∨ half p = 4 := by cases p <;> simp [half]

/-! ## Offsets inside their buffers -/

theorem in2 {s : Shape} {o₀ o₁ : ℕ} {size : Fin 2 → ℕ} {N : Fin 2 → ℕ} (h₀ : o₀ + size 0 ≤ N 0) (h₁ : o₁ + size 1 ≤ N 1) :
    ∀ a, (![o₀, o₁] : Fin 2 → ℕ) a + size a ≤ N a := Fin.forall_fin_two.mpr ⟨h₀, h₁⟩

theorem in3 {o₀ o₁ o₂ : ℕ} {size : Fin 3 → ℕ} {N : Fin 3 → ℕ} (h₀ : o₀ + size 0 ≤ N 0) (h₁ : o₁ + size 1 ≤ N 1) (h₂ : o₂ + size 2 ≤ N 2) :
    ∀ a, (![o₀, o₁, o₂] : Fin 3 → ℕ) a + size a ≤ N a := fun a => by
  match a with
  | 0 => exact h₀
  | 1 => exact h₁
  | 2 => exact h₂

theorem inDys (p : Bool) (b : Fin 4) : ∀ a, (![0, half p + b.val, 0] : Fin 3 → ℕ) a + S1x1x1024.size a ≤ S1x8x1024.size a := by
  have := half_le p; exact in3 (by decide) (show half p + b.val + 1 ≤ 8 by omega) (by decide)
theorem inDy (p : Bool) (b : Fin 4) : ∀ a, (![(half p + b.val) * 128, 0] : Fin 2 → ℕ) a + S128x1024.size a ≤ S1024x1024.size a := by
  have := half_le p; exact in2 (s := S1024x1024) (show (half p + b.val) * 128 + 128 ≤ 1024 by omega) (by decide)
theorem inY (b : Fin 4) : ∀ a, (![b.val * 128, 0] : Fin 2 → ℕ) a + S128x1024.size a ≤ S512x1024.size a :=
  in2 (s := S512x1024) (show b.val * 128 + 128 ≤ 512 by omega) (by decide)
theorem inRs (p : Bool) (b : Fin 4) : ∀ a, (![0, (half p + b.val) * 128, 0] : Fin 3 → ℕ) a + S1x128x24.size a ≤ S1x1024x24.size a := by
  have := half_le p; exact in3 (by decide) (show (half p + b.val) * 128 + 128 ≤ 1024 by omega) (by decide)
theorem inCodes (p : Bool) (b : Fin 4) (g : Fin 24) :
    ∀ a, (![(half p + b.val) * 128, g.val * 128] : Fin 2 → ℕ) a + S128x128.size a ≤ S1024x3072.size a := by
  have := half_le p
  exact in2 (s := S1024x3072) (show (half p + b.val) * 128 + 128 ≤ 1024 by omega) (show g.val * 128 + 128 ≤ 3072 by omega)
theorem inXs (p : Bool) (b : Fin 4) (g : Fin 24) :
    ∀ a, (![0, half p + b.val, g.val * 128] : Fin 3 → ℕ) a + S1x1x128.size a ≤ S1x8x3072.size a := by
  have := half_le p
  exact in3 (by decide) (show half p + b.val + 1 ≤ 8 by omega) (show g.val * 128 + 128 ≤ 3072 by omega)
theorem inX (b : Fin 4) (g : Fin 24) : ∀ a, (![g.val * 128, b.val * 128] : Fin 2 → ℕ) a + S128x128.size a ≤ S3072x512.size a :=
  in2 (s := S3072x512) (show g.val * 128 + 128 ≤ 3072 by omega) (show b.val * 128 + 128 ≤ 512 by omega)
theorem inXc (c : Fin 12) : ∀ a, (![c.val * 256, 0] : Fin 2 → ℕ) a + S256x512.size a ≤ S3072x512.size a :=
  in2 (s := S3072x512) (show c.val * 256 + 256 ≤ 3072 by omega) (by decide)
theorem inOut (c : Fin 12) : ∀ a, (![c.val * 256, 0] : Fin 2 → ℕ) a + S256x1024.size a ≤ S3072x1024.size a :=
  in2 (s := S3072x1024) (show c.val * 256 + 256 ≤ 3072 by omega) (by decide)
theorem inSlice (g : Fin 24) : S128x24.Slices ![0, g.val] S128x1 := by revert g; decide

theorem packedY (b : Fin 4) : (Rect.unit (s := S512x1024) ![b.val * 128, 0] S128x1024.size (inY b)).PackedRows (EltTy.packing .bf16) :=
  .inr ⟨Nat.le_refl 2, rfl, .inl ⟨(Dvd.intro (b.val * 64) (by show 2 * (b.val * 64) = b.val * 128; omega)), (show 2 ∣ 128 by decide)⟩⟩
theorem packedCodes (p : Bool) (b : Fin 4) (g : Fin 24) :
    (Rect.unit (s := S1024x3072) ![(half p + b.val) * 128, g.val * 128] S128x128.size (inCodes p b g)).PackedRows (EltTy.packing .fp8e4m3) :=
  .inr ⟨Nat.le_refl 2, rfl, .inl ⟨(Dvd.intro ((half p + b.val) * 32) (by show 4 * ((half p + b.val) * 32) = (half p + b.val) * 128; omega)), (show 4 ∣ 128 by decide)⟩⟩
theorem packedX (b : Fin 4) (g : Fin 24) :
    (Rect.unit (s := S3072x512) ![g.val * 128, b.val * 128] S128x128.size (inX b g)).PackedRows (EltTy.packing .bf16) :=
  .inr ⟨Nat.le_refl 2, rfl, .inl ⟨(Dvd.intro (g.val * 64) (by show 2 * (g.val * 64) = g.val * 128; omega)), (show 2 ∣ 128 by decide)⟩⟩

/-! ## What a step computes of what it loads -/

/-- A block of `dy` times its column scales. -/
def deqVal (v3 : Vec F S128x1024 .fp8e5m2) (v4 : Vec F S1x1x1024 .f32) : FVec F S128x1024 .bf16 :=
  shapeCast S128x1024
    (mulf (extf .bf16 (shapeCast S128x1024 v3 shapeCasts_S128x1024_S128x1024) bitsLt_fp8e5m2_bf16)
      (broadcastTo S128x1024 (truncf .bf16 (shapeCast S1x1024 v4 shapeCasts_S1x1x1024_S1x1024) bitsLt_bf16_f32) broadcasts_S1x1024_S128x1024))
    shapeCasts_S128x1024_S128x1024

/-- The row scales of a block of tokens, one column per tile. -/
def rowVal (v2 : Vec F S1x128x24 .f32) : FVec F S128x24 .bf16 :=
  truncf .bf16 (shapeCast S128x24 v2 shapeCasts_S1x128x24_S128x24) bitsLt_bf16_f32

/-- A tile of `x` times its row scales. -/
def xVal (g : Fin 24) (v55 : FVec F S128x24 .bf16) (v1 : Vec F S128x128 .fp8e4m3) : FVec F S128x128 .bf16 :=
  mulf (extf .bf16 (shapeCast S128x128 v1 shapeCasts_S128x128_S128x128) bitsLt_fp8e4m3_bf16)
    (broadcastTo S128x128 (extractStridedSlice S128x1 ![0, g.val] v55 (inSlice g)) broadcasts_S128x1_S128x128)

/-- The largest magnitude of each column of a tile, over 448. -/
def topVal (x : FVec F S128x128 .bf16) : FVec F S1x128 .f32 :=
  mulf (extf .f32 (shapeCast S1x128 (multiReduction .maximumf [0] S128 (absf x) 0xFF80#16 reduces_S128x128_S128 (.inr rfl) rfl) shapeCasts_S128_S1x128) bitsLt_bf16_f32)
    (broadcast S1x128 (Scalar.ofBits .f32 0x3B124925#32))

/-- The exponent field of each entry: the largest `k` whose power of two is not above it. -/
def fieldVal (t : FVec F S1x128 .f32) : IVec S1x128 32 :=
  shapeCast S1x128
    (multiReductionI .maxsi [0] S128
      (select
        (cmpf .olt (broadcastTo S256x128 t broadcasts_S1x128_S256x128)
          (bitcastToFloat .f32 (shli (iota .tc S256x128 32 [0] iota_S256x128_d0_w32) (broadcast S256x128 23#32))))
        (broadcast S256x128 0#32) (iota .tc S256x128 32 [0] iota_S256x128_d0_w32))
      2147483648#32 reduces_S256x128_S128 rfl)
    shapeCasts_S128_S1x128

/-- The exponent of a column's scale: one more than its top's, and none for a zero field. -/
def expVal (k : IVec S1x128 32) : IVec S1x128 32 :=
  select (cmpi .eq k (broadcast S1x128 0#32)) (broadcast S1x128 0#32) (subi k (broadcast S1x128 126#32))

/-- The scale `2^e`. -/
def scaleVal (e : IVec S1x128 32) : FVec F S1x128 .f32 :=
  bitcastToFloat .f32 (shli (addi e (broadcast S1x128 127#32)) (broadcast S1x128 23#32))

/-- Its inverse. -/
def invVal (e : IVec S1x128 32) : FVec F S1x128 .f32 :=
  bitcastToFloat .f32 (shli (maxsi (subi (broadcast S1x128 127#32) e) (broadcast S1x128 0#32)) (broadcast S1x128 23#32))

/-- The codes of a tile under an inverse scale. -/
def codeVal (x : FVec F S128x128 .bf16) (inv : FVec F S1x128 .f32) : FVec F S128x128 .fp8e4m3 :=
  truncf .fp8e4m3
    (minimumf (broadcast S128x128 (Scalar.truncf .bf16 bitsLt_bf16_f32 (Scalar.ofBits .f32 0x43E00000#32)))
      (maximumf (broadcast S128x128 (Scalar.truncf .bf16 bitsLt_bf16_f32 (Scalar.ofBits .f32 0xC3E00000#32)))
        (mulf x (broadcastTo S128x128 (truncf .bf16 inv bitsLt_bf16_f32) broadcasts_S1x128_S128x128))))
    bitsLt_fp8e4m3_bf16

/-- The dequantised tile, transposed for the product. -/
def backVal (codes : FVec F S128x128 .fp8e4m3) (scale : FVec F S1x128 .f32) : FVec F S128x128 .bf16 :=
  shapeCast S128x128
    (transpose S128x128 [1, 0]
      (mulf (extf .bf16 codes bitsLt_fp8e4m3_bf16) (broadcastTo S128x128 (truncf .bf16 scale bitsLt_bf16_f32) broadcasts_S1x128_S128x128))
      transposes_S128x128_p1_0_S128x128)
    shapeCasts_S128x128_S128x128

/-- One chunk of the weight gradient with a slab's product added. -/
def dotVal (v6 : Vec F S256x1024 .f32) (vx : FVec F S256x512 .bf16) (vy : FVec F S512x1024 .bf16) : FVec F S256x1024 .f32 :=
  addf (shapeCast S256x1024 v6 shapeCasts_S256x1024_S256x1024)
    (matmul (F := F) dot_S256x512_S512x1024_S256x1024_1_0_0_1_n_n none vx vy (constant S256x1024 .f32 0x00000000#32))

/-! ## The steps -/

/-- The buffers one call of the body works on, with the evidence its stores cite. -/
structure Bufs where
  codes : Memref sig .tc .vmem S1024x3072 .fp8e4m3
  rs : Memref sig .tc .vmem S1x1024x24 .f32
  dy : Memref sig .tc .vmem S1024x1024 .fp8e5m2
  dys : Memref sig .tc .vmem S1x8x1024 .f32
  out : Memref sig .tc .vmem S3072x1024 .f32
  xt : Memref sig .tc .vmem S1024x3072 .fp8e4m3
  hxt : xt.IsWhole
  xs : Memref sig .tc .vmem S1x8x3072 .f32
  xa : Memref sig .tc .vmem S3072x512 .bf16
  hxa : xa.IsWhole
  xb : Memref sig .tc .vmem S3072x512 .bf16
  hxb : xb.IsWhole
  ya : Memref sig .tc .vmem S512x1024 .bf16
  hya : ya.IsWhole
  yb : Memref sig .tc .vmem S512x1024 .bf16
  hyb : yb.IsWhole

/-- A program of the body. -/
abbrev P (F : FTy → Type) [FloatOps F] := Prog (TpuEff nD τ sig (Elt F) Λ₀ .tc) PUnit

/-- Dequantise block `b` of half `p` of `dy` into `y`, then `K`. -/
def deqK (dy : Memref sig .tc .vmem S1024x1024 .fp8e5m2) (dys : Memref sig .tc .vmem S1x8x1024 .f32)
    (y : Memref sig .tc .vmem S512x1024 .bf16) (hy : y.IsWhole) (p : Bool) (b : Fin 4) (K : PUnit → P F) : P F :=
  .op (.load dys (Rect.unit (s := S1x8x1024) ![0, half p + b.val, 0] S1x1x1024.size (inDys p b)).toLoadRect (View.loadsAt_vmem h_S1x1x1024)) fun v4 =>
  .op (.load dy (Rect.unit (s := S1024x1024) ![(half p + b.val) * 128, 0] S128x1024.size (inDy p b)).toLoadRect (View.loadsAt_vmem h_S128x1024)) fun v3 =>
  .op (.load y (Rect.unit (s := S512x1024) ![b.val * 128, 0] S128x1024.size (inY b)).toLoadRect (View.loadsAt_vmem h_S128x1024)) fun _ =>
  .op (.store y (Rect.unit (s := S512x1024) ![b.val * 128, 0] S128x1024.size (inY b)) (deqVal v3 v4) Finset.univ
    (View.stores_vmem h_S128x1024 (hy.storeExact_slice rfl _ (packedY b)) (fun _ => rfl)) (.inl rfl)) K

/-- Requantise tile `g` of block `b` of half `p` of `x`, given the block's row scales, then `K`. -/
def tileK (codes : Memref sig .tc .vmem S1024x3072 .fp8e4m3) (xt : Memref sig .tc .vmem S1024x3072 .fp8e4m3) (hxt : xt.IsWhole)
    (xs : Memref sig .tc .vmem S1x8x3072 .f32) (x : Memref sig .tc .vmem S3072x512 .bf16) (hx : x.IsWhole)
    (p : Bool) (b : Fin 4) (g : Fin 24) (v55 : FVec F S128x24 .bf16) (K : PUnit → P F) : P F :=
  .op (.load codes (Rect.unit (s := S1024x3072) ![(half p + b.val) * 128, g.val * 128] S128x128.size (inCodes p b g)).toLoadRect (View.loadsAt_vmem h_S128x128)) fun v1 =>
  .op (.load xt (Rect.unit (s := S1024x3072) ![(half p + b.val) * 128, g.val * 128] S128x128.size (inCodes p b g)).toLoadRect (View.loadsAt_vmem h_S128x128)) fun _ =>
  .op (.store xt (Rect.unit (s := S1024x3072) ![(half p + b.val) * 128, g.val * 128] S128x128.size (inCodes p b g))
    (codeVal (xVal g v55 v1) (invVal (expVal (fieldVal (topVal (xVal g v55 v1)))))) Finset.univ
    (View.stores_vmem h_S128x128 (hxt.storeExact_slice rfl _ (packedCodes p b g)) (fun _ => rfl)) (.inl rfl)) fun _ =>
  .op (.load xs (Rect.unit (s := S1x8x3072) ![0, half p + b.val, g.val * 128] S1x1x128.size (inXs p b g)).toLoadRect (View.loadsAt_vmem h_S1x1x128)) fun _ =>
  .op (.store xs (Rect.unit (s := S1x8x3072) ![0, half p + b.val, g.val * 128] S1x1x128.size (inXs p b g))
    (shapeCast S1x1x128 (scaleVal (expVal (fieldVal (topVal (xVal g v55 v1))))) shapeCasts_S1x128_S1x1x128) Finset.univ
    (View.stores_vmem_bits_univ h_S1x1x128 rfl) (.inl rfl)) fun _ =>
  .op (.load x (Rect.unit (s := S3072x512) ![g.val * 128, b.val * 128] S128x128.size (inX b g)).toLoadRect (View.loadsAt_vmem h_S128x128)) fun _ =>
  .op (.store x (Rect.unit (s := S3072x512) ![g.val * 128, b.val * 128] S128x128.size (inX b g))
    (backVal (codeVal (xVal g v55 v1) (invVal (expVal (fieldVal (topVal (xVal g v55 v1)))))) (scaleVal (expVal (fieldVal (topVal (xVal g v55 v1)))))) Finset.univ
    (View.stores_vmem h_S128x128 (hx.storeExact_slice rfl _ (packedX b g)) (fun _ => rfl)) (.inl rfl)) K

/-- The two tiles of chunk `c`. -/
abbrev lo (c : Fin 12) : Fin 24 := ⟨c.val * 2, by omega⟩
abbrev hi (c : Fin 12) : Fin 24 := ⟨c.val * 2 + 1, by omega⟩

/-- Requantise chunk `c` of block `b` of half `p` of `x`, then `K`. -/
def quantK (codes : Memref sig .tc .vmem S1024x3072 .fp8e4m3) (rs : Memref sig .tc .vmem S1x1024x24 .f32)
    (xt : Memref sig .tc .vmem S1024x3072 .fp8e4m3) (hxt : xt.IsWhole)
    (xs : Memref sig .tc .vmem S1x8x3072 .f32) (x : Memref sig .tc .vmem S3072x512 .bf16) (hx : x.IsWhole)
    (p : Bool) (c : Fin 12) (b : Fin 4) (K : PUnit → P F) : P F :=
  .op (.load rs (Rect.unit (s := S1x1024x24) ![0, (half p + b.val) * 128, 0] S1x128x24.size (inRs p b)).toLoadRect (View.loadsAt_vmem h_S1x128x24)) fun v2 =>
  tileK codes xt hxt xs x hx p b (lo c) (rowVal v2) fun _ =>
  tileK codes xt hxt xs x hx p b (hi c) (rowVal v2) K

/-- Add chunk `c` of a slab's product into the gradient, then `K`. -/
def dotK (out : Memref sig .tc .vmem S3072x1024 .f32) (x : Memref sig .tc .vmem S3072x512 .bf16) (y : Memref sig .tc .vmem S512x1024 .bf16)
    (c : Fin 12) (K : PUnit → P F) : P F :=
  .op (.load out (Rect.unit (s := S3072x1024) ![c.val * 256, 0] S256x1024.size (inOut c)).toLoadRect (View.loadsAt_vmem h_S256x1024)) fun v6 =>
  .op (.load x (Rect.unit (s := S3072x512) ![c.val * 256, 0] S256x512.size (inXc c)).toLoadRect (View.loadsAt_vmem h_S256x512)) fun vx =>
  .op (.load y (Rect.unit (s := S512x1024) ![0, 0] S512x1024.size inb_S512x1024_S512x1024_0_0).toLoadRect (View.loadsAt_vmem h_S512x1024)) fun vy =>
  .op (.load out (Rect.unit (s := S3072x1024) ![c.val * 256, 0] S256x1024.size (inOut c)).toLoadRect (View.loadsAt_vmem h_S256x1024)) fun _ =>
  .op (.store out (Rect.unit (s := S3072x1024) ![c.val * 256, 0] S256x1024.size (inOut c)) (dotVal v6 vx vy) Finset.univ
    (View.stores_vmem_bits_univ h_S256x1024 rfl) (.inl rfl)) K

/-- A step of the body: on half `p` (`false` the first), block `b`, chunk `c`. -/
inductive Cmd where
  | deq (p : Bool) (b : Fin 4)
  | quant (p : Bool) (c : Fin 12) (b : Fin 4)
  | dot (p : Bool) (c : Fin 12)

/-- A step, then `K`. -/
def cmdK (B : Bufs) (K : PUnit → P F) : Cmd → P F
  | .deq false b => deqK B.dy B.dys B.ya B.hya false b K
  | .deq true b => deqK B.dy B.dys B.yb B.hyb true b K
  | .quant false c b => quantK B.codes B.rs B.xt B.hxt B.xs B.xa B.hxa false c b K
  | .quant true c b => quantK B.codes B.rs B.xt B.hxt B.xs B.xb B.hxb true c b K
  | .dot false c => dotK B.out B.xa B.ya c K
  | .dot true c => dotK B.out B.xb B.yb c K

/-- The steps of a list in order, then `K`. -/
def denote (B : Bufs) : List Cmd → (PUnit → P F) → P F
  | [], K => K ⟨⟩
  | s :: L, K => cmdK B (fun _ => denote B L K) s

/-! ## The lists the body runs -/

/-- One list per chunk, in order. -/
def chunks (f : Fin 12 → List Cmd → List Cmd) (L : List Cmd) : List Cmd :=
  f ⟨0, by decide⟩ (f ⟨1, by decide⟩ (f ⟨2, by decide⟩ (f ⟨3, by decide⟩ (f ⟨4, by decide⟩ (f ⟨5, by decide⟩ (f ⟨6, by decide⟩ (f ⟨7, by decide⟩
    (f ⟨8, by decide⟩ (f ⟨9, by decide⟩ (f ⟨10, by decide⟩ (f ⟨11, by decide⟩ L)))))))))))

/-- The four blocks of `dy`. -/
def deqs (p : Bool) (L : List Cmd) : List Cmd :=
  .deq p ⟨0, by decide⟩ :: .deq p ⟨1, by decide⟩ :: .deq p ⟨2, by decide⟩ :: .deq p ⟨3, by decide⟩ :: L

/-- The four blocks of a chunk of `x`. -/
def quants (p : Bool) (c : Fin 12) (L : List Cmd) : List Cmd :=
  .quant p c ⟨0, by decide⟩ :: .quant p c ⟨1, by decide⟩ :: .quant p c ⟨2, by decide⟩ :: .quant p c ⟨3, by decide⟩ :: L

/-- A half requantised with no product beside it. -/
def alone (p : Bool) (L : List Cmd) : List Cmd := deqs p (chunks (quants p) L)
/-- A half requantised, the other half's buffers multiplied chunk by chunk beside it. -/
def both (p : Bool) (L : List Cmd) : List Cmd := deqs p (chunks (fun c L => quants p c (.dot (!p) c :: L)) L)
/-- A half's buffers multiplied. -/
def dots (p : Bool) (L : List Cmd) : List Cmd := chunks (fun c L => .dot p c :: L) L

/-! ## A step met at the head of a program -/

theorem denote_deq_false {B : Bufs} {b : Fin 4} {L : List Cmd} {K K' : PUnit → P F} (h : denote B L K = K' ⟨⟩) :
    denote B (.deq false b :: L) K = deqK B.dy B.dys B.ya B.hya false b K' :=
  congrArg (deqK B.dy B.dys B.ya B.hya false b) (funext fun _ => h)
theorem denote_deq_true {B : Bufs} {b : Fin 4} {L : List Cmd} {K K' : PUnit → P F} (h : denote B L K = K' ⟨⟩) :
    denote B (.deq true b :: L) K = deqK B.dy B.dys B.yb B.hyb true b K' :=
  congrArg (deqK B.dy B.dys B.yb B.hyb true b) (funext fun _ => h)
theorem denote_quant_false {B : Bufs} {c : Fin 12} {b : Fin 4} {L : List Cmd} {K K' : PUnit → P F} (h : denote B L K = K' ⟨⟩) :
    denote B (.quant false c b :: L) K = quantK B.codes B.rs B.xt B.hxt B.xs B.xa B.hxa false c b K' :=
  congrArg (quantK B.codes B.rs B.xt B.hxt B.xs B.xa B.hxa false c b) (funext fun _ => h)
theorem denote_quant_true {B : Bufs} {c : Fin 12} {b : Fin 4} {L : List Cmd} {K K' : PUnit → P F} (h : denote B L K = K' ⟨⟩) :
    denote B (.quant true c b :: L) K = quantK B.codes B.rs B.xt B.hxt B.xs B.xb B.hxb true c b K' :=
  congrArg (quantK B.codes B.rs B.xt B.hxt B.xs B.xb B.hxb true c b) (funext fun _ => h)
theorem denote_dot_false {B : Bufs} {c : Fin 12} {L : List Cmd} {K K' : PUnit → P F} (h : denote B L K = K' ⟨⟩) :
    denote B (.dot false c :: L) K = dotK B.out B.xa B.ya c K' :=
  congrArg (dotK B.out B.xa B.ya c) (funext fun _ => h)
theorem denote_dot_true {B : Bufs} {c : Fin 12} {L : List Cmd} {K K' : PUnit → P F} (h : denote B L K = K' ⟨⟩) :
    denote B (.dot true c :: L) K = dotK B.out B.xb B.yb c K' :=
  congrArg (dotK B.out B.xb B.yb c) (funext fun _ => h)

end Cert.KernelIdeal.Steps
-- ==== Proof.KernelIdeal.Body.lean ====
/- The printed body runs lists of steps (`Steps.denote`).

   Each printed branch is met step by step: the next step of the list is unfolded to the loads and stores it is, and
   they are the branch's next ones, by computation. -/
module

public import proofs.«01_k».proof.Proof.KernelIdeal.Cmds

@[expose] public section

set_option maxRecDepth 16384

noncomputable section

namespace Cert.KernelIdeal.Steps

open Idealize.ShloMosaic Idealize.SL.Sem
open Cert.KernelIdeal Cert.KernelIdeal.Gen

variable {F : FTy → Type} [FloatOps F]
variable (i : grid0.Coords) (arg1 : Memref sig .tc .vmem S1024x3072 .fp8e4m3) (harg1 : arg1.IsWhole) (arg2 : Memref sig .tc .vmem S1x1024x24 .f32) (harg2 : arg2.IsWhole) (arg3 : Memref sig .tc .vmem S1024x1024 .fp8e5m2) (harg3 : arg3.IsWhole) (arg4 : Memref sig .tc .vmem S1x8x1024 .f32) (harg4 : arg4.IsWhole) (arg5 : Memref sig .tc .hbm S3072x1024 .f32) (harg5 : arg5.IsWhole) (arg6 : Memref sig .tc .vmem S3072x1024 .f32) (harg6 : arg6.IsWhole) (arg7 : Memref sig .tc .vmem S1024x3072 .fp8e4m3) (harg7 : arg7.IsWhole) (arg8 : Memref sig .tc .vmem S1x8x3072 .f32) (harg8 : arg8.IsWhole) (arg9 : Memref sig .tc .vmem S3072x512 .bf16) (harg9 : arg9.IsWhole) (arg10 : Memref sig .tc .vmem S3072x512 .bf16) (harg10 : arg10.IsWhole) (arg11 : Memref sig .tc .vmem S512x1024 .bf16) (harg11 : arg11.IsWhole) (arg12 : Memref sig .tc .vmem S512x1024 .bf16) (harg12 : arg12.IsWhole) (arg13 : DmaSems sig S_)

/-- The body's buffers. -/
abbrev bufs : Bufs := ⟨arg1, arg2, arg3, arg4, arg6, arg7, harg7, arg8, arg9, harg9, arg10, harg10, arg11, harg11, arg12, harg12⟩

/-- An effect met at the head of a program, -/
theorem op_eq {β : Type} {e : TpuEff nD τ sig (Elt F) Λ₀ .tc β} {K K' : β → P F} (h : ∀ x, K x = K' x) : Prog.op e K = Prog.op e K' :=
  congrArg (Prog.op e) (funext h)
/-- and after a list of steps. -/
theorem denote_nil_op {B : Bufs} {β : Type} {e : TpuEff nD τ sig (Elt F) Λ₀ .tc β} {K K' : β → P F} (h : ∀ x, K x = K' x) :
    denote B [] (fun _ => Prog.op e K) = Prog.op e K' :=
  congrArg (Prog.op e) (funext h)

set_option maxHeartbeats 0 in
/-- The first point: the transfer of the gradient's start runs beside the first half, and is waited for before the second, whose
    product is the first half's. -/
theorem first_eq (h1 : k0_cond1 i = 1#1) (h2 : ¬ k0_cond2 i = 1#1) (h3 : ¬ k0_cond3 i = 1#1) :
    Prog.op (.enqueueDma arg5 (.here arg6) (.dma arg13.sem) harg5.wordExact harg6.wordExact ⟨Or.inl rfl, trivial⟩) (fun _ =>
      denote (bufs arg1 arg2 arg3 arg4 arg6 arg7 harg7 arg8 arg9 harg9 arg10 harg10 arg11 harg11 arg12 harg12) (alone false [])
        (fun _ => Prog.op (.waitDma2 arg13.sem arg5 arg6 harg5.wordExact harg6.wordExact) (fun _ =>
          denote (bufs arg1 arg2 arg3 arg4 arg6 arg7 harg7 arg8 arg9 harg9 arg10 harg10 arg11 harg11 arg12 harg12) (both true []) (fun _ => .ret ⟨⟩))))
      = cc0_fp8_weight_grad (F := F) i arg1 harg1 arg2 harg2 arg3 harg3 arg4 harg4 arg5 harg5 arg6 harg6 arg7 harg7 arg8 harg8 arg9 harg9 arg10 harg10 arg11 harg11 arg12 harg12 arg13 := by
  unfold cc0_fp8_weight_grad
  rw [dif_pos h1, dif_neg h2, dif_neg h3]
  refine op_eq fun _ => ?_
  iterate 4 refine denote_deq_false ?_
  iterate 12
    iterate 4 refine denote_quant_false ?_
  refine denote_nil_op fun _ => ?_
  iterate 4 refine denote_deq_true ?_
  iterate 12
    iterate 4 refine denote_quant_true ?_
    refine denote_dot_false ?_
  rfl

set_option maxHeartbeats 0 in
/-- A point past the first and before the last: both halves, each beside the product of the half before it. -/
theorem mid_eq (h1 : ¬ k0_cond1 i = 1#1) (h2 : k0_cond2 i = 1#1) (h3 : ¬ k0_cond3 i = 1#1) :
    denote (bufs arg1 arg2 arg3 arg4 arg6 arg7 harg7 arg8 arg9 harg9 arg10 harg10 arg11 harg11 arg12 harg12) (both false (both true [])) (fun _ => .ret ⟨⟩)
      = cc0_fp8_weight_grad (F := F) i arg1 harg1 arg2 harg2 arg3 harg3 arg4 harg4 arg5 harg5 arg6 harg6 arg7 harg7 arg8 harg8 arg9 harg9 arg10 harg10 arg11 harg11 arg12 harg12 arg13 := by
  unfold cc0_fp8_weight_grad
  rw [dif_neg h1, dif_pos h2, dif_neg h3]
  iterate 4 refine denote_deq_false ?_
  iterate 12
    iterate 4 refine denote_quant_false ?_
    refine denote_dot_true ?_
  iterate 4 refine denote_deq_true ?_
  iterate 12
    iterate 4 refine denote_quant_true ?_
    refine denote_dot_false ?_
  rfl

set_option maxHeartbeats 0 in
/-- The last point: as before it, and then the product of its second half. -/
theorem last_eq (h1 : ¬ k0_cond1 i = 1#1) (h2 : k0_cond2 i = 1#1) (h3 : k0_cond3 i = 1#1) :
    denote (bufs arg1 arg2 arg3 arg4 arg6 arg7 harg7 arg8 arg9 harg9 arg10 harg10 arg11 harg11 arg12 harg12) (both false (both true (dots true []))) (fun _ => .ret ⟨⟩)
      = cc0_fp8_weight_grad (F := F) i arg1 harg1 arg2 harg2 arg3 harg3 arg4 harg4 arg5 harg5 arg6 harg6 arg7 harg7 arg8 harg8 arg9 harg9 arg10 harg10 arg11 harg11 arg12 harg12 arg13 := by
  unfold cc0_fp8_weight_grad
  rw [dif_neg h1, dif_pos h2, dif_pos h3]
  iterate 4 refine denote_deq_false ?_
  iterate 12
    iterate 4 refine denote_quant_false ?_
    refine denote_dot_true ?_
  iterate 4 refine denote_deq_true ?_
  iterate 12
    iterate 4 refine denote_quant_true ?_
    refine denote_dot_false ?_
  iterate 12 refine denote_dot_true ?_
  rfl

end Cert.KernelIdeal.Steps
-- ==== Proof.KernelIdeal.Wp.lean ====
/- What a list of steps does to the buffers, as a function of their contents, and the proof that running it does that. -/
module

public import proofs.«01_k».proof.Proof.KernelIdeal.Cmds
public import Idealize.ShloMosaic.Lib.VecWindow

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Loads and stores of an owned memref -/

section Access

variable {s : Shape} {e : EltTy} {m : Memref sig .tc .vmem s e} {X : s.Idx → Elt F e} {off size : Fin s.rank → ℕ}
  {inb : ∀ a, off a + size a ≤ s.size a} (𝒱 : Variants) (c : Dev nD) (bd : Option 𝒱.V)

/-- A load of a window of an owned memref reads the window of its contents. -/
theorem owns_load {Q : PUnit.{1} → sProp 𝕄} {hl : m.view.LoadsAt (Rect.unit off size inb).toLoadRect} {k : ((Rect.unit off size inb).shape.Idx → Elt F e) → P F} :
    owns (c : Thread nD τ) m fullShare X
      ⊢ iprop((owns (c : Thread nD τ) m fullShare X -∗ wp frame (wpE (defs₀ (F := F)) 𝒱 (c : Thread nD τ) bd) Set.univ (k (VecWindow.window X off size inb)) Q)
        -∗ wp frame (wpE (defs₀ (F := F)) 𝒱 (c : Thread nD τ) bd) Set.univ (.op (.load m (Rect.unit off size inb).toLoadRect hl) k) Q) := by
  unfold owns
  iintro ⟨%f, %hf, H⟩ Hk
  iapply (wp_load 𝒱 (c : Thread nD τ) bd Set.univ (m := m) (S := m.view.set) (m.view.setOn_subset_set _)) $$ H
  iintro H
  have h : m.view.readAt (Elt F) (Rect.unit off size inb).toLoadRect f = VecWindow.window X off size inb := by
    rw [← hf]; rfl
  rw [h]
  iapply Hk; iexists f; isplitr
  · ipureintro; exact hf
  · iexact H

/-- A store over a window of an owned memref puts the payload there. -/
theorem owns_store {Q : PUnit.{1} → sProp 𝕄} {w : (Rect.unit off size inb).shape.Idx → Elt F e} {hx : (m.access (Rect.unit off size inb)).Stores Finset.univ}
    {hm : (Finset.univ : Finset (Rect.unit off size inb).shape.Idx) = Finset.univ ∨ ∀ a, (Rect.unit off size inb).stride a = 1} {k : PUnit → P F} :
    owns (c : Thread nD τ) m fullShare X
      ⊢ iprop((owns (c : Thread nD τ) m fullShare (VecWindow.put X off size w) -∗ wp frame (wpE (defs₀ (F := F)) 𝒱 (c : Thread nD τ) bd) Set.univ (k ⟨⟩) Q)
        -∗ wp frame (wpE (defs₀ (F := F)) 𝒱 (c : Thread nD τ) bd) Set.univ (.op (.store m (Rect.unit off size inb) w Finset.univ hx hm) k) Q) := by
  unfold owns
  iintro ⟨%f, %hf, H⟩ Hk
  iapply (wp_store 𝒱 (c : Thread nD τ) bd Set.univ (m := m) (r := Rect.unit off size inb) (S := m.view.set)
    (((m.access _).setOn_subset_set _).trans (m.view.set_slice_subset _))) $$ H
  iintro H
  iapply Hk; iexists _; isplitr
  · ipureintro
    rw [← hf]
    exact View.read_writes_cons_put m.view f inb w [] rfl
  · iexact H

end Access

/-! ## The steps on contents -/

/-- What the body is called with at a point: a block of each input. -/
structure In (F : FTy → Type) [FloatOps F] where
  codes : S1024x3072.Idx → Elt F .fp8e4m3
  rs : S1x1024x24.Idx → Elt F .f32
  dy : S1024x1024.Idx → Elt F .fp8e5m2
  dys : S1x8x1024.Idx → Elt F .f32

/-- The contents of the buffers the steps write. -/
structure St (F : FTy → Type) [FloatOps F] where
  out : S3072x1024.Idx → Elt F .f32
  xt : S1024x3072.Idx → Elt F .fp8e4m3
  xs : S1x8x3072.Idx → Elt F .f32
  xa : S3072x512.Idx → Elt F .bf16
  xb : S3072x512.Idx → Elt F .bf16
  ya : S512x1024.Idx → Elt F .bf16
  yb : S512x1024.Idx → Elt F .bf16

variable (I : In F)

/-- Block `b` of half `p` of `dy`, dequantised. -/
abbrev dyOf (p : Bool) (b : Fin 4) : FVec F S128x1024 .bf16 :=
  deqVal (VecWindow.window I.dy ![(half p + b.val) * 128, 0] S128x1024.size (inDy p b))
    (VecWindow.window I.dys ![0, half p + b.val, 0] S1x1x1024.size (inDys p b))

/-- Tile `g` of block `b` of half `p` of `x`, dequantised, -/
abbrev xOf (p : Bool) (b : Fin 4) (g : Fin 24) : FVec F S128x128 .bf16 :=
  xVal g (rowVal (VecWindow.window I.rs ![0, (half p + b.val) * 128, 0] S1x128x24.size (inRs p b)))
    (VecWindow.window I.codes ![(half p + b.val) * 128, g.val * 128] S128x128.size (inCodes p b g))
/-- the exponents of its columns' scales, -/
abbrev eOf (p : Bool) (b : Fin 4) (g : Fin 24) : IVec S1x128 32 := expVal (fieldVal (topVal (xOf I p b g)))
/-- the scales, -/
abbrev sOf (p : Bool) (b : Fin 4) (g : Fin 24) : FVec F S1x128 .f32 := scaleVal (eOf I p b g)
/-- the codes, -/
abbrev cOf (p : Bool) (b : Fin 4) (g : Fin 24) : FVec F S128x128 .fp8e4m3 := codeVal (xOf I p b g) (invVal (eOf I p b g))
/-- and the tile the product is made of. -/
abbrev wOf (p : Bool) (b : Fin 4) (g : Fin 24) : FVec F S128x128 .bf16 := backVal (cOf I p b g) (sOf I p b g)

/-- One tile's three stores. -/
def tile (p : Bool) (b : Fin 4) (g : Fin 24) (σ : St F) : St F :=
  let σ' : St F := { σ with
    xt := VecWindow.put σ.xt ![(half p + b.val) * 128, g.val * 128] S128x128.size (cOf I p b g)
    xs := VecWindow.put σ.xs ![0, half p + b.val, g.val * 128] S1x1x128.size (shapeCast S1x1x128 (sOf I p b g) shapeCasts_S1x128_S1x1x128) }
  match p with
  | false => { σ' with xa := VecWindow.put σ.xa ![g.val * 128, b.val * 128] S128x128.size (wOf I false b g) }
  | true => { σ' with xb := VecWindow.put σ.xb ![g.val * 128, b.val * 128] S128x128.size (wOf I true b g) }

/-- One chunk of the gradient after a product. -/
abbrev dotOf (out : S3072x1024.Idx → Elt F .f32) (x : S3072x512.Idx → Elt F .bf16) (y : S512x1024.Idx → Elt F .bf16) (c : Fin 12) : FVec F S256x1024 .f32 :=
  dotVal (VecWindow.window out ![c.val * 256, 0] S256x1024.size (inOut c)) (VecWindow.window x ![c.val * 256, 0] S256x512.size (inXc c))
    (VecWindow.window y ![0, 0] S512x1024.size inb_S512x1024_S512x1024_0_0)

/-- One step. -/
def step (σ : St F) : Cmd → St F
  | .deq false b => { σ with ya := VecWindow.put σ.ya ![b.val * 128, 0] S128x1024.size (dyOf I false b) }
  | .deq true b => { σ with yb := VecWindow.put σ.yb ![b.val * 128, 0] S128x1024.size (dyOf I true b) }
  | .quant p c b => tile I p b (hi c) (tile I p b (lo c) σ)
  | .dot false c => { σ with out := VecWindow.put σ.out ![c.val * 256, 0] S256x1024.size (dotOf σ.out σ.xa σ.ya c) }
  | .dot true c => { σ with out := VecWindow.put σ.out ![c.val * 256, 0] S256x1024.size (dotOf σ.out σ.xb σ.yb c) }

/-- A list of steps, in order. -/
def run (L : List Cmd) (σ : St F) : St F := L.foldl (step I) σ

/-! ## The steps run -/

/-- The input blocks, at their contents. -/
def ins (c : Dev nD) (B : Bufs) : sProp 𝕄 :=
  iprop(owns (c : Thread nD τ) B.codes fullShare I.codes ∗ owns (c : Thread nD τ) B.rs fullShare I.rs
    ∗ owns (c : Thread nD τ) B.dy fullShare I.dy ∗ owns (c : Thread nD τ) B.dys fullShare I.dys)

/-- The written buffers but the gradient's, at their contents. -/
def sts (c : Dev nD) (B : Bufs) (σ : St F) : sProp 𝕄 :=
  iprop(owns (c : Thread nD τ) B.xt fullShare σ.xt ∗ owns (c : Thread nD τ) B.xs fullShare σ.xs
    ∗ owns (c : Thread nD τ) B.xa fullShare σ.xa ∗ owns (c : Thread nD τ) B.xb fullShare σ.xb
    ∗ owns (c : Thread nD τ) B.ya fullShare σ.ya ∗ owns (c : Thread nD τ) B.yb fullShare σ.yb)

section Run

variable (𝒱 : Variants) (c : Dev nD) (bd : Option 𝒱.V)

theorem wp_deqK {Q : PUnit.{1} → sProp 𝕄} {dy : Memref sig .tc .vmem S1024x1024 .fp8e5m2} {dys : Memref sig .tc .vmem S1x8x1024 .f32}
    {y : Memref sig .tc .vmem S512x1024 .bf16} {hy : y.IsWhole} {p : Bool} {b : Fin 4} {K : PUnit → P F} {Y : S512x1024.Idx → Elt F .bf16} :
    iprop(owns (c : Thread nD τ) dy fullShare I.dy ∗ owns (c : Thread nD τ) dys fullShare I.dys ∗ owns (c : Thread nD τ) y fullShare Y)
      ⊢ iprop((owns (c : Thread nD τ) dy fullShare I.dy -∗ owns (c : Thread nD τ) dys fullShare I.dys
          -∗ owns (c : Thread nD τ) y fullShare (VecWindow.put Y ![b.val * 128, 0] S128x1024.size (dyOf I p b))
          -∗ wp frame (wpE (defs₀ (F := F)) 𝒱 (c : Thread nD τ) bd) Set.univ (K ⟨⟩) Q)
        -∗ wp frame (wpE (defs₀ (F := F)) 𝒱 (c : Thread nD τ) bd) Set.univ (deqK dy dys y hy p b K) Q) := by
  unfold deqK
  iintro ⟨Hdy, Hdys, Hy⟩ Hk
  iapply (owns_load 𝒱 c bd) $$ Hdys; iintro Hdys
  iapply (owns_load 𝒱 c bd) $$ Hdy; iintro Hdy
  iapply (owns_load 𝒱 c bd) $$ Hy; iintro Hy
  iapply (owns_store 𝒱 c bd) $$ Hy; iintro Hy
  iapply Hk $$ Hdy Hdys
  iexact Hy

theorem wp_tileK {Q : PUnit.{1} → sProp 𝕄} {codes xt : Memref sig .tc .vmem S1024x3072 .fp8e4m3} {hxt : xt.IsWhole} {xs : Memref sig .tc .vmem S1x8x3072 .f32}
    {x : Memref sig .tc .vmem S3072x512 .bf16} {hx : x.IsWhole} {p : Bool} {b : Fin 4} {g : Fin 24} {K : PUnit → P F}
    {T : S1024x3072.Idx → Elt F .fp8e4m3} {S : S1x8x3072.Idx → Elt F .f32} {X : S3072x512.Idx → Elt F .bf16} :
    iprop(owns (c : Thread nD τ) codes fullShare I.codes ∗ owns (c : Thread nD τ) xt fullShare T ∗ owns (c : Thread nD τ) xs fullShare S
        ∗ owns (c : Thread nD τ) x fullShare X)
      ⊢ iprop((owns (c : Thread nD τ) codes fullShare I.codes
          -∗ owns (c : Thread nD τ) xt fullShare (VecWindow.put T ![(half p + b.val) * 128, g.val * 128] S128x128.size (cOf I p b g))
          -∗ owns (c : Thread nD τ) xs fullShare (VecWindow.put S ![0, half p + b.val, g.val * 128] S1x1x128.size (shapeCast S1x1x128 (sOf I p b g) shapeCasts_S1x128_S1x1x128))
          -∗ owns (c : Thread nD τ) x fullShare (VecWindow.put X ![g.val * 128, b.val * 128] S128x128.size (wOf I p b g))
          -∗ wp frame (wpE (defs₀ (F := F)) 𝒱 (c : Thread nD τ) bd) Set.univ (K ⟨⟩) Q)
        -∗ wp frame (wpE (defs₀ (F := F)) 𝒱 (c : Thread nD τ) bd) Set.univ
            (tileK codes xt hxt xs x hx p b g (rowVal (VecWindow.window I.rs ![0, (half p + b.val) * 128, 0] S1x128x24.size (inRs p b))) K) Q) := by
  unfold tileK
  iintro ⟨Hc, Ht, Hs, Hx⟩ Hk
  iapply (owns_load 𝒱 c bd) $$ Hc; iintro Hc
  iapply (owns_load 𝒱 c bd) $$ Ht; iintro Ht
  iapply (owns_store 𝒱 c bd) $$ Ht; iintro Ht
  iapply (owns_load 𝒱 c bd) $$ Hs; iintro Hs
  iapply (owns_store 𝒱 c bd) $$ Hs; iintro Hs
  iapply (owns_load 𝒱 c bd) $$ Hx; iintro Hx
  iapply (owns_store 𝒱 c bd) $$ Hx; iintro Hx
  iapply Hk $$ [Hc] [Ht] [Hs] [Hx]
  · iexact Hc
  · iexact Ht
  · iexact Hs
  · iexact Hx

theorem wp_dotK {Q : PUnit.{1} → sProp 𝕄} {out : Memref sig .tc .vmem S3072x1024 .f32} {x : Memref sig .tc .vmem S3072x512 .bf16} {y : Memref sig .tc .vmem S512x1024 .bf16}
    {ch : Fin 12} {K : PUnit → P F} {O : S3072x1024.Idx → Elt F .f32} {X : S3072x512.Idx → Elt F .bf16} {Y : S512x1024.Idx → Elt F .bf16} :
    iprop(owns (c : Thread nD τ) out fullShare O ∗ owns (c : Thread nD τ) x fullShare X ∗ owns (c : Thread nD τ) y fullShare Y)
      ⊢ iprop((owns (c : Thread nD τ) out fullShare (VecWindow.put O ![ch.val * 256, 0] S256x1024.size (dotOf O X Y ch))
          -∗ owns (c : Thread nD τ) x fullShare X -∗ owns (c : Thread nD τ) y fullShare Y
          -∗ wp frame (wpE (defs₀ (F := F)) 𝒱 (c : Thread nD τ) bd) Set.univ (K ⟨⟩) Q)
        -∗ wp frame (wpE (defs₀ (F := F)) 𝒱 (c : Thread nD τ) bd) Set.univ (dotK out x y ch K) Q) := by
  unfold dotK
  iintro ⟨Ho, Hx, Hy⟩ Hk
  iapply (owns_load 𝒱 c bd) $$ Ho; iintro Ho
  iapply (owns_load 𝒱 c bd) $$ Hx; iintro Hx
  iapply (owns_load 𝒱 c bd) $$ Hy; iintro Hy
  iapply (owns_load 𝒱 c bd) $$ Ho; iintro Ho
  iapply (owns_store 𝒱 c bd) $$ Ho; iintro Ho
  iapply Hk $$ [Ho] [Hx] [Hy]
  · iexact Ho
  · iexact Hx
  · iexact Hy

/-- A step that touches the gradient is a product. -/
def Cmd.quiet : Cmd → Prop
  | .dot _ _ => False
  | _ => True

/-- A step that is no product leaves the gradient as it is, and needs nothing of it. -/
theorem wp_quiet {Q : PUnit.{1} → sProp 𝕄} {B : Bufs} {σ : St F} {K : PUnit → P F} {s : Cmd} (hs : s.quiet) :
    iprop(ins I c B ∗ sts c B σ)
      ⊢ iprop((ins I c B -∗ sts c B (step I σ s) -∗ wp frame (wpE (defs₀ (F := F)) 𝒱 (c : Thread nD τ) bd) Set.univ (K ⟨⟩) Q)
        -∗ wp frame (wpE (defs₀ (F := F)) 𝒱 (c : Thread nD τ) bd) Set.univ (cmdK B K s) Q) := by
  unfold ins sts
  obtain ⟨p, b⟩ | ⟨p, ch, b⟩ | ⟨p, ch⟩ := s
  · obtain _ | _ := p
    · dsimp only [cmdK, quantK, step]
      iintro ⟨⟨Hc, Hr, Hdy, Hdys⟩, Ht, Hs, Hxa, Hxb, Hya, Hyb⟩ Hk
      iapply (wp_deqK I 𝒱 c bd) $$ [Hdy Hdys Hya]
      · iframe
      iintro Hdy Hdys Hya
      iapply Hk $$ [Hc Hr Hdy Hdys] [Ht Hs Hxa Hxb Hya Hyb] <;> iframe
    · dsimp only [cmdK, quantK, step]
      iintro ⟨⟨Hc, Hr, Hdy, Hdys⟩, Ht, Hs, Hxa, Hxb, Hya, Hyb⟩ Hk
      iapply (wp_deqK I 𝒱 c bd) $$ [Hdy Hdys Hyb]
      · iframe
      iintro Hdy Hdys Hyb
      iapply Hk $$ [Hc Hr Hdy Hdys] [Ht Hs Hxa Hxb Hya Hyb] <;> iframe
  · obtain _ | _ := p
    · dsimp only [cmdK, quantK, step]
      iintro ⟨⟨Hc, Hr, Hdy, Hdys⟩, Ht, Hs, Hxa, Hxb, Hya, Hyb⟩ Hk
      iapply (owns_load 𝒱 c bd) $$ Hr; iintro Hr
      iapply (wp_tileK I 𝒱 c bd) $$ [Hc Ht Hs Hxa]
      · iframe
      iintro Hc Ht Hs Hxa
      iapply (wp_tileK I 𝒱 c bd) $$ [Hc Ht Hs Hxa]
      · iframe
      iintro Hc Ht Hs Hxa
      iapply Hk $$ [Hc Hr Hdy Hdys] [Ht Hs Hxa Hxb Hya Hyb]
      · iframe
      · isplitl [Ht]; · iexact Ht
        isplitl [Hs]; · iexact Hs
        isplitl [Hxa]; · iexact Hxa
        isplitl [Hxb]; · iexact Hxb
        isplitl [Hya]; · iexact Hya
        iexact Hyb
    · dsimp only [cmdK, quantK, step]
      iintro ⟨⟨Hc, Hr, Hdy, Hdys⟩, Ht, Hs, Hxa, Hxb, Hya, Hyb⟩ Hk
      iapply (owns_load 𝒱 c bd) $$ Hr; iintro Hr
      iapply (wp_tileK I 𝒱 c bd) $$ [Hc Ht Hs Hxb]
      · iframe
      iintro Hc Ht Hs Hxb
      iapply (wp_tileK I 𝒱 c bd) $$ [Hc Ht Hs Hxb]
      · iframe
      iintro Hc Ht Hs Hxb
      iapply Hk $$ [Hc Hr Hdy Hdys] [Ht Hs Hxa Hxb Hya Hyb]
      · iframe
      · isplitl [Ht]; · iexact Ht
        isplitl [Hs]; · iexact Hs
        isplitl [Hxa]; · iexact Hxa
        isplitl [Hxb]; · iexact Hxb
        isplitl [Hya]; · iexact Hya
        iexact Hyb
  · exact absurd hs id

theorem step_out_of_quiet (σ : St F) {s : Cmd} (hs : s.quiet) : (step I σ s).out = σ.out := by
  match s with
  | .deq false _ => rfl
  | .deq true _ => rfl
  | .quant false _ _ => rfl
  | .quant true _ _ => rfl

/-- Any step, the gradient's buffer held. -/
theorem wp_cmd {Q : PUnit.{1} → sProp 𝕄} {B : Bufs} {σ : St F} {K : PUnit → P F} (s : Cmd) :
    iprop(ins I c B ∗ sts c B σ ∗ owns (c : Thread nD τ) B.out fullShare σ.out)
      ⊢ iprop((ins I c B -∗ sts c B (step I σ s) -∗ owns (c : Thread nD τ) B.out fullShare (step I σ s).out
          -∗ wp frame (wpE (defs₀ (F := F)) 𝒱 (c : Thread nD τ) bd) Set.univ (K ⟨⟩) Q)
        -∗ wp frame (wpE (defs₀ (F := F)) 𝒱 (c : Thread nD τ) bd) Set.univ (cmdK B K s) Q) := by
  by_cases hs : s.quiet
  · rw [step_out_of_quiet I σ hs]
    iintro ⟨Hi, Hs, Ho⟩ Hk
    iapply (wp_quiet I 𝒱 c bd hs) $$ [Hi Hs]
    · iframe
    iintro Hi Hs
    iapply Hk $$ Hi Hs
    iexact Ho
  · unfold sts
    obtain ⟨p, b⟩ | ⟨p, ch, b⟩ | ⟨_ | _, ch⟩ := s
    · exact absurd trivial hs
    · exact absurd trivial hs
    · dsimp only [cmdK, step]
      iintro ⟨Hi, ⟨Ht, Hs, Hxa, Hxb, Hya, Hyb⟩, Ho⟩ Hk
      iapply (wp_dotK 𝒱 c bd) $$ [Ho Hxa Hya]
      · iframe
      iintro Ho Hxa Hya
      iapply Hk $$ Hi [Ht Hs Hxa Hxb Hya Hyb]
      · iframe
      iexact Ho
    · dsimp only [cmdK, step]
      iintro ⟨Hi, ⟨Ht, Hs, Hxa, Hxb, Hya, Hyb⟩, Ho⟩ Hk
      iapply (wp_dotK 𝒱 c bd) $$ [Ho Hxb Hyb]
      · iframe
      iintro Ho Hxb Hyb
      iapply Hk $$ Hi [Ht Hs Hxa Hxb Hya Hyb]
      · iframe
      iexact Ho

/-- A list of steps, the gradient's buffer held. -/
theorem wp_denote {Q : PUnit.{1} → sProp 𝕄} {B : Bufs} {K : PUnit → P F} (L : List Cmd) (σ : St F) :
    iprop(ins I c B ∗ sts c B σ ∗ owns (c : Thread nD τ) B.out fullShare σ.out)
      ⊢ iprop((ins I c B -∗ sts c B (run I L σ) -∗ owns (c : Thread nD τ) B.out fullShare (run I L σ).out
          -∗ wp frame (wpE (defs₀ (F := F)) 𝒱 (c : Thread nD τ) bd) Set.univ (K ⟨⟩) Q)
        -∗ wp frame (wpE (defs₀ (F := F)) 𝒱 (c : Thread nD τ) bd) Set.univ (denote B L K) Q) := by
  induction L generalizing σ with
  | nil =>
    iintro ⟨Hi, Hs, Ho⟩ Hk
    iapply Hk $$ Hi [Hs] [Ho]
    · iexact Hs
    · iexact Ho
  | cons s L ih =>
    iintro ⟨Hi, Hs, Ho⟩ Hk
    iapply (wp_cmd I 𝒱 c bd s) $$ [Hi Hs Ho]
    · iframe
    iintro Hi Hs Ho
    iapply (ih (step I σ s)) $$ [Hi Hs Ho]
    · iframe
    iexact Hk

/-- A list of steps none of which is a product, without the gradient's buffer. -/
theorem wp_denote_quiet {Q : PUnit.{1} → sProp 𝕄} {B : Bufs} {K : PUnit → P F} (L : List Cmd) (hL : ∀ s ∈ L, s.quiet) (σ : St F) :
    iprop(ins I c B ∗ sts c B σ)
      ⊢ iprop((ins I c B -∗ sts c B (run I L σ) -∗ wp frame (wpE (defs₀ (F := F)) 𝒱 (c : Thread nD τ) bd) Set.univ (K ⟨⟩) Q)
        -∗ wp frame (wpE (defs₀ (F := F)) 𝒱 (c : Thread nD τ) bd) Set.univ (denote B L K) Q) := by
  induction L generalizing σ with
  | nil =>
    iintro ⟨Hi, Hs⟩ Hk
    iapply Hk $$ Hi
    iexact Hs
  | cons s L ih =>
    iintro ⟨Hi, Hs⟩ Hk
    iapply (wp_quiet I 𝒱 c bd (hL s (List.mem_cons_self ..))) $$ [Hi Hs]
    · iframe
    iintro Hi Hs
    iapply (ih (fun s' h => hL s' (List.mem_cons_of_mem _ h)) (step I σ s)) $$ [Hi Hs]
    · iframe
    iexact Hk

theorem quiet_alone (p : Bool) : ∀ s ∈ alone p [], s.quiet := by
  show ∀ s ∈ deqs p (chunks (quants p) []), s.quiet
  unfold deqs chunks quants
  simp only [List.forall_mem_cons, List.not_mem_nil, false_imp_iff, implies_true, Cmd.quiet, and_self]

end Run

end Cert.KernelIdeal.Steps
-- ==== Proof.KernelIdeal.State.lean ====
/- What the buffers hold after each list of steps the body runs: closed forms of the tiles written, and of the gradient. -/
module

public import proofs.«01_k».proof.Proof.KernelIdeal.Wp
public import Idealize.ShloMosaic.Lib.Pointwise.Index

@[expose] public section

set_option maxRecDepth 16384

noncomputable section

namespace Cert.KernelIdeal.Steps

open Cert.KernelIdeal Cert.KernelIdeal.Gen
open Idealize.ShloMosaic

variable {F : FTy → Type} [FloatOps F]

/-! ## The lists, flat -/

abbrev deqL (p : Bool) : List Cmd := (List.finRange 4).map (.deq p)
abbrev quantL (p : Bool) (c : Fin 12) : List Cmd := (List.finRange 4).map (.quant p c)
abbrev bothL (p : Bool) : List Cmd := deqL p ++ (List.finRange 12).flatMap fun c => quantL p c ++ [.dot (!p) c]
abbrev aloneL (p : Bool) : List Cmd := deqL p ++ (List.finRange 12).flatMap fun c => quantL p c
abbrev dotsL (p : Bool) : List Cmd := (List.finRange 12).flatMap fun c => [] ++ [.dot p c]

theorem both_eq (p : Bool) (L : List Cmd) : both p L = bothL p ++ L := rfl
theorem alone_eq (p : Bool) (L : List Cmd) : alone p L = aloneL p ++ L := rfl
theorem dots_eq (p : Bool) (L : List Cmd) : dots p L = dotsL p ++ L := rfl

theorem run_append (I : In F) (L L' : List Cmd) (σ : St F) : run I (L ++ L') σ = run I L' (run I L σ) := List.foldl_append ..

/-! ## The closed forms -/

/-- The half, the block and the place in the block of a token of the point's 1024. -/
abbrev hOf (a : Fin 1024) : Bool := decide (512 ≤ a.val)
abbrev bOf (a : Fin 1024) : Fin 4 := ⟨a.val / 128 % 4, Nat.mod_lt _ (by decide)⟩
abbrev l128 {n : ℕ} (a : Fin n) : Fin 128 := ⟨a.val % 128, Nat.mod_lt _ (by decide)⟩
/-- The group of a column, the block of a token of a half. -/
abbrev gOf (b : Fin 3072) : Fin 24 := ⟨b.val / 128, by omega⟩
abbrev b512 (b : Fin 512) : Fin 4 := ⟨b.val / 128, by omega⟩

variable (I : In F)

/-- The codes of a point, -/
def XT : S1024x3072.Idx → Elt F .fp8e4m3 := fun i => cOf I (hOf (i 0)) (bOf (i 0)) (gOf (i 1)) (ix2 (l128 (i 0)) (l128 (i 1)))
/-- its scales, -/
def XS : S1x8x3072.Idx → Elt F .f32 := fun i =>
  shapeCast S1x1x128 (sOf I (decide (4 ≤ (i 1).val)) ⟨(i 1).val % 4, Nat.mod_lt _ (by decide)⟩ (gOf (i 2))) shapeCasts_S1x128_S1x1x128 (ix3 0 0 (l128 (i 2)))
/-- the left factor of a half's product, -/
def XX (p : Bool) : S3072x512.Idx → Elt F .bf16 := fun i => wOf I p (b512 (i 1)) (gOf (i 0)) (ix2 (l128 (i 0)) (l128 (i 1)))
/-- the right factor, -/
def YY (p : Bool) : S512x1024.Idx → Elt F .bf16 := fun i => dyOf I p (b512 (i 0)) (ix2 (l128 (i 0)) (i 1))
/-- and the gradient with a half's product added. -/
def dotAll (O : S3072x1024.Idx → Elt F .f32) (X : S3072x512.Idx → Elt F .bf16) (Y : S512x1024.Idx → Elt F .bf16) : S3072x1024.Idx → Elt F .f32 :=
  fun i => dotOf O X Y ⟨(i 0).val / 256, by have := (i 0).isLt; change _ < 3072 at this; omega⟩ (ix2 ⟨(i 0).val % 256, Nat.mod_lt _ (by decide)⟩ (i 1))

/-! ## One put -/

section Put

variable {α : Type} {s : Shape} {x T : s.Idx → α} {off size : Fin s.rank → ℕ} {w : ((a : Fin s.rank) → Fin (size a)) → α} {y : s.Idx}

/-- A put of a part of `T` leaves `T` where it writes, and where `T` was. -/
theorem put_eq (hw : ∀ h : ∀ a, off a ≤ (y a).val ∧ (y a).val < off a + size a, w (Rect.unitLocal (s := s) (off := off) (size := size) y h) = T y)
    (hy : (∀ a, off a ≤ (y a).val ∧ (y a).val < off a + size a) ∨ x y = T y) : VecWindow.put x off size w y = T y := by
  unfold VecWindow.put
  by_cases h : ∀ a, off a ≤ (y a).val ∧ (y a).val < off a + size a
  · rw [dif_pos h]; exact hw h
  · rw [dif_neg h]; exact hy.resolve_left h

theorem put_out (a : Fin s.rank) (h : (y a).val < off a ∨ off a + size a ≤ (y a).val) : VecWindow.put x off size w y = x y := by
  unfold VecWindow.put
  rw [dif_neg (fun h' => by have := h' a; omega)]

end Put

theorem cOf_at {p p' : Bool} {b b' : Fin 4} {g g' : Fin 24} {j j' : S128x128.Idx} (hp : p = p') (hb : b.val = b'.val) (hg : g.val = g'.val)
    (h0 : (j 0).val = (j' 0).val) (h1 : (j 1).val = (j' 1).val) : cOf I p b g j = cOf I p' b' g' j' := by
  obtain rfl := hp; obtain rfl := Fin.ext hb; obtain rfl := Fin.ext hg
  congr 1; rw [eq_ix2 j, eq_ix2 j']; exact (ix2_inj _ _ _ _).mpr ⟨Fin.ext h0, Fin.ext h1⟩

theorem wOf_at {p p' : Bool} {b b' : Fin 4} {g g' : Fin 24} {j j' : S128x128.Idx} (hp : p = p') (hb : b.val = b'.val) (hg : g.val = g'.val)
    (h0 : (j 0).val = (j' 0).val) (h1 : (j 1).val = (j' 1).val) : wOf I p b g j = wOf I p' b' g' j' := by
  obtain rfl := hp; obtain rfl := Fin.ext hb; obtain rfl := Fin.ext hg
  congr 1; rw [eq_ix2 j, eq_ix2 j']; exact (ix2_inj _ _ _ _).mpr ⟨Fin.ext h0, Fin.ext h1⟩

theorem dyOf_at {p p' : Bool} {b b' : Fin 4} {j j' : S128x1024.Idx} (hp : p = p') (hb : b.val = b'.val)
    (h0 : (j 0).val = (j' 0).val) (h1 : (j 1).val = (j' 1).val) : dyOf I p b j = dyOf I p' b' j' := by
  obtain rfl := hp; obtain rfl := Fin.ext hb
  congr 1; rw [eq_ix2 j, eq_ix2 j']; exact (ix2_inj _ _ _ _).mpr ⟨Fin.ext h0, Fin.ext h1⟩

theorem sOf_at {p p' : Bool} {b b' : Fin 4} {g g' : Fin 24} {j j' : S1x1x128.Idx} (hp : p = p') (hb : b.val = b'.val) (hg : g.val = g'.val)
    (h2 : (j 2).val = (j' 2).val) : shapeCast S1x1x128 (sOf I p b g) shapeCasts_S1x128_S1x1x128 j = shapeCast S1x1x128 (sOf I p' b' g') shapeCasts_S1x128_S1x1x128 j' := by
  obtain rfl := hp; obtain rfl := Fin.ext hb; obtain rfl := Fin.ext hg
  congr 1; rw [eq_ix3 j, eq_ix3 j']; exact (ix3_inj _ _ _ _ _ _).mpr ⟨Subsingleton.elim (α := Fin 1) _ _, Subsingleton.elim (α := Fin 1) _ _, Fin.ext h2⟩

theorem half_val (p : Bool) : half p = 0 ∧ p = false ∨ half p = 4 ∧ p = true := by cases p <;> simp [half]

/-- A tile's codes, put. -/
theorem put_xt {x : S1024x3072.Idx → Elt F .fp8e4m3} {p : Bool} {b : Fin 4} {g : Fin 24} {y : S1024x3072.Idx}
    (hy : (hOf (y 0) = p ∧ bOf (y 0) = b ∧ gOf (y 1) = g) ∨ x y = XT I y) :
    VecWindow.put x ![(half p + b.val) * 128, g.val * 128] S128x128.size (cOf I p b g) y = XT I y := by
  refine put_eq (T := XT I) (fun h => ?_) (hy.imp_left fun ⟨hp, hb, hg⟩ => ?_)
  · have h0 : (half p + b.val) * 128 ≤ (y 0).val ∧ (y 0).val < (half p + b.val) * 128 + 128 := h 0
    have h1 : g.val * 128 ≤ (y 1).val ∧ (y 1).val < g.val * 128 + 128 := h 1
    have := b.isLt
    refine cOf_at I ?_ ?_ ?_ ?_ ?_
    · rcases half_val p with ⟨hh, rfl⟩ | ⟨hh, rfl⟩
      · exact (decide_eq_false (by omega)).symm
      · exact (decide_eq_true (by omega)).symm
    · show b.val = (y 0).val / 128 % 4
      rcases half_val p with ⟨hh, _⟩ | ⟨hh, _⟩ <;> omega
    · show g.val = (y 1).val / 128
      omega
    · show (y 0).val - (half p + b.val) * 128 = (y 0).val % 128
      omega
    · show (y 1).val - g.val * 128 = (y 1).val % 128
      omega
  · have hb' : (y 0).val / 128 % 4 = b.val := congrArg Fin.val hb
    have hg' : (y 1).val / 128 = g.val := congrArg Fin.val hg
    have hy0 : (y 0).val < 1024 := (y 0).isLt
    intro a
    match a with
    | ⟨0, _⟩ =>
      show (half p + b.val) * 128 ≤ (y 0).val ∧ (y 0).val < (half p + b.val) * 128 + 128
      rcases half_val p with ⟨hh, rfl⟩ | ⟨hh, rfl⟩
      · have := of_decide_eq_false hp; omega
      · have := of_decide_eq_true hp; omega
    | ⟨1, _⟩ =>
      show g.val * 128 ≤ (y 1).val ∧ (y 1).val < g.val * 128 + 128
      omega

/-- A tile's scales, put. -/
theorem put_xs {x : S1x8x3072.Idx → Elt F .f32} {p : Bool} {b : Fin 4} {g : Fin 24} {y : S1x8x3072.Idx}
    (hy : (decide (4 ≤ (y 1).val) = p ∧ (y 1).val % 4 = b.val ∧ gOf (y 2) = g) ∨ x y = XS I y) :
    VecWindow.put x ![0, half p + b.val, g.val * 128] S1x1x128.size (shapeCast S1x1x128 (sOf I p b g) shapeCasts_S1x128_S1x1x128) y = XS I y := by
  refine put_eq (T := XS I) (fun h => ?_) (hy.imp_left fun ⟨hp, hb, hg⟩ => ?_)
  · have h0 : half p + b.val ≤ (y 1).val ∧ (y 1).val < half p + b.val + 1 := h 1
    have h1 : g.val * 128 ≤ (y 2).val ∧ (y 2).val < g.val * 128 + 128 := h 2
    have := b.isLt
    refine sOf_at I ?_ ?_ ?_ ?_
    · rcases half_val p with ⟨hh, rfl⟩ | ⟨hh, rfl⟩
      · exact (decide_eq_false (by omega)).symm
      · exact (decide_eq_true (by omega)).symm
    · show b.val = (y 1).val % 4
      rcases half_val p with ⟨hh, _⟩ | ⟨hh, _⟩ <;> omega
    · show g.val = (y 2).val / 128
      omega
    · show (y 2).val - g.val * 128 = (y 2).val % 128
      omega
  · have hg' : (y 2).val / 128 = g.val := congrArg Fin.val hg
    have hy1 : (y 1).val < 8 := (y 1).isLt
    have hy0 : (y 0).val < 1 := (y 0).isLt
    intro a
    match a with
    | ⟨0, _⟩ =>
      show 0 ≤ (y 0).val ∧ (y 0).val < 0 + 1
      omega
    | ⟨1, _⟩ =>
      show half p + b.val ≤ (y 1).val ∧ (y 1).val < half p + b.val + 1
      rcases half_val p with ⟨hh, rfl⟩ | ⟨hh, rfl⟩
      · have := of_decide_eq_false hp; omega
      · have := of_decide_eq_true hp; omega
    | ⟨2, _⟩ =>
      show g.val * 128 ≤ (y 2).val ∧ (y 2).val < g.val * 128 + 128
      omega

/-- A tile of the left factor, put. -/
theorem put_x {x : S3072x512.Idx → Elt F .bf16} {p : Bool} {b : Fin 4} {g : Fin 24} {y : S3072x512.Idx}
    (hy : (b512 (y 1) = b ∧ gOf (y 0) = g) ∨ x y = XX I p y) :
    VecWindow.put x ![g.val * 128, b.val * 128] S128x128.size (wOf I p b g) y = XX I p y := by
  refine put_eq (T := XX I p) (fun h => ?_) (hy.imp_left fun ⟨hb, hg⟩ => ?_)
  · have h0 : g.val * 128 ≤ (y 0).val ∧ (y 0).val < g.val * 128 + 128 := h 0
    have h1 : b.val * 128 ≤ (y 1).val ∧ (y 1).val < b.val * 128 + 128 := h 1
    refine wOf_at I rfl ?_ ?_ ?_ ?_
    · show b.val = (y 1).val / 128
      omega
    · show g.val = (y 0).val / 128
      omega
    · show (y 0).val - g.val * 128 = (y 0).val % 128
      omega
    · show (y 1).val - b.val * 128 = (y 1).val % 128
      omega
  · have hb' : (y 1).val / 128 = b.val := congrArg Fin.val hb
    have hg' : (y 0).val / 128 = g.val := congrArg Fin.val hg
    intro a
    match a with
    | ⟨0, _⟩ =>
      show g.val * 128 ≤ (y 0).val ∧ (y 0).val < g.val * 128 + 128
      omega
    | ⟨1, _⟩ =>
      show b.val * 128 ≤ (y 1).val ∧ (y 1).val < b.val * 128 + 128
      omega

/-- A block of the right factor, put. -/
theorem put_y {x : S512x1024.Idx → Elt F .bf16} {p : Bool} {b : Fin 4} {y : S512x1024.Idx} (hy : b512 (y 0) = b ∨ x y = YY I p y) :
    VecWindow.put x ![b.val * 128, 0] S128x1024.size (dyOf I p b) y = YY I p y := by
  refine put_eq (T := YY I p) (fun h => ?_) (hy.imp_left fun hb => ?_)
  · have h0 : b.val * 128 ≤ (y 0).val ∧ (y 0).val < b.val * 128 + 128 := h 0
    refine dyOf_at I rfl ?_ ?_ ?_
    · show b.val = (y 0).val / 128
      omega
    · show (y 0).val - b.val * 128 = (y 0).val % 128
      omega
    · show (y 1).val - 0 = (y 1).val
      omega
  · have hb' : (y 0).val / 128 = b.val := congrArg Fin.val hb
    have hy1 : (y 1).val < 1024 := (y 1).isLt
    intro a
    match a with
    | ⟨0, _⟩ =>
      show b.val * 128 ≤ (y 0).val ∧ (y 0).val < b.val * 128 + 128
      omega
    | ⟨1, _⟩ =>
      show 0 ≤ (y 1).val ∧ (y 1).val < 0 + 1024
      omega

/-! ## One step -/

/-- The factors of half `p` in a state. -/
def St.x (σ : St F) : Bool → S3072x512.Idx → Elt F .bf16
  | false => σ.xa
  | true => σ.xb
def St.y (σ : St F) : Bool → S512x1024.Idx → Elt F .bf16
  | false => σ.ya
  | true => σ.yb

/-- A step on half `p`. -/
def Cmd.on (p : Bool) : Cmd → Prop
  | .deq q _ => q = p
  | .quant q _ _ => q = p
  | .dot _ _ => False

theorem step_xt {s : Cmd} {σ : St F} {y : S1024x3072.Idx} (h : σ.xt y = XT I y) : (step I σ s).xt y = XT I y := by
  match s with
  | .deq false _ => exact h
  | .deq true _ => exact h
  | .dot false _ => exact h
  | .dot true _ => exact h
  | .quant false _ _ => exact put_xt I (.inr (put_xt I (.inr h)))
  | .quant true _ _ => exact put_xt I (.inr (put_xt I (.inr h)))

theorem step_xs {s : Cmd} {σ : St F} {y : S1x8x3072.Idx} (h : σ.xs y = XS I y) : (step I σ s).xs y = XS I y := by
  match s with
  | .deq false _ => exact h
  | .deq true _ => exact h
  | .dot false _ => exact h
  | .dot true _ => exact h
  | .quant false _ _ => exact put_xs I (.inr (put_xs I (.inr h)))
  | .quant true _ _ => exact put_xs I (.inr (put_xs I (.inr h)))

theorem step_x {s : Cmd} {σ : St F} {p : Bool} {y : S3072x512.Idx} (h : σ.x p y = XX I p y) : (step I σ s).x p y = XX I p y := by
  match s, p with
  | .deq false _, false => exact h
  | .deq true _, false => exact h
  | .dot false _, false => exact h
  | .dot true _, false => exact h
  | .quant false _ _, false => exact put_x I (.inr (put_x I (.inr h)))
  | .quant true _ _, false => exact h
  | .deq false _, true => exact h
  | .deq true _, true => exact h
  | .dot false _, true => exact h
  | .dot true _, true => exact h
  | .quant false _ _, true => exact h
  | .quant true _ _, true => exact put_x I (.inr (put_x I (.inr h)))

theorem step_y {s : Cmd} {σ : St F} {p : Bool} {y : S512x1024.Idx} (h : σ.y p y = YY I p y) : (step I σ s).y p y = YY I p y := by
  match s, p with
  | .deq false _, false => exact put_y I (.inr h)
  | .deq true _, false => exact h
  | .dot false _, false => exact h
  | .dot true _, false => exact h
  | .quant false _ _, false => exact h
  | .quant true _ _, false => exact h
  | .deq false _, true => exact h
  | .deq true _, true => exact put_y I (.inr h)
  | .dot false _, true => exact h
  | .dot true _, true => exact h
  | .quant false _ _, true => exact h
  | .quant true _ _, true => exact h

/-- The column of a group lies in the one or the other tile of its chunk. -/
abbrev chOf (g : Fin 24) : Fin 12 := ⟨g.val / 2, by omega⟩
theorem lo_or_hi (g : Fin 24) : g = lo (chOf g) ∨ g = hi (chOf g) := by
  rcases Nat.mod_two_eq_zero_or_one g.val with h | h
  · exact .inl (Fin.ext (by show g.val = g.val / 2 * 2; omega))
  · exact .inr (Fin.ext (by show g.val = g.val / 2 * 2 + 1; omega))

theorem quant_xt {σ : St F} {y : S1024x3072.Idx} : (step I σ (.quant (hOf (y 0)) (chOf (gOf (y 1))) (bOf (y 0)))).xt y = XT I y := by
  have key : ∀ p, hOf (y 0) = p → (step I σ (.quant p (chOf (gOf (y 1))) (bOf (y 0)))).xt y = XT I y := fun p hp => by
    rcases lo_or_hi (gOf (y 1)) with h | h
    · match p with
      | false => exact put_xt I (.inr (put_xt I (.inl ⟨hp, rfl, h⟩)))
      | true => exact put_xt I (.inr (put_xt I (.inl ⟨hp, rfl, h⟩)))
    · match p with
      | false => exact put_xt I (.inl ⟨hp, rfl, h⟩)
      | true => exact put_xt I (.inl ⟨hp, rfl, h⟩)
  exact key _ rfl

theorem quant_xs {σ : St F} {y : S1x8x3072.Idx} :
    (step I σ (.quant (decide (4 ≤ (y 1).val)) (chOf (gOf (y 2))) ⟨(y 1).val % 4, Nat.mod_lt _ (by decide)⟩)).xs y = XS I y := by
  have key : ∀ p, decide (4 ≤ (y 1).val) = p → (step I σ (.quant p (chOf (gOf (y 2))) ⟨(y 1).val % 4, Nat.mod_lt _ (by decide)⟩)).xs y = XS I y := fun p hp => by
    rcases lo_or_hi (gOf (y 2)) with h | h
    · match p with
      | false => exact put_xs I (.inr (put_xs I (.inl ⟨hp, rfl, h⟩)))
      | true => exact put_xs I (.inr (put_xs I (.inl ⟨hp, rfl, h⟩)))
    · match p with
      | false => exact put_xs I (.inl ⟨hp, rfl, h⟩)
      | true => exact put_xs I (.inl ⟨hp, rfl, h⟩)
  exact key _ rfl

theorem quant_x {σ : St F} {p : Bool} {y : S3072x512.Idx} : (step I σ (.quant p (chOf (gOf (y 0))) (b512 (y 1)))).x p y = XX I p y := by
  rcases lo_or_hi (gOf (y 0)) with h | h
  · match p with
    | false => exact put_x I (.inr (put_x I (.inl ⟨rfl, h⟩)))
    | true => exact put_x I (.inr (put_x I (.inl ⟨rfl, h⟩)))
  · match p with
    | false => exact put_x I (.inl ⟨rfl, h⟩)
    | true => exact put_x I (.inl ⟨rfl, h⟩)

theorem deq_y {σ : St F} {p : Bool} {y : S512x1024.Idx} : (step I σ (.deq p (b512 (y 0)))).y p y = YY I p y := by
  match p with
  | false => exact put_y I (.inl rfl)
  | true => exact put_y I (.inl rfl)

/-- What holds after one step of a list and is kept by every step holds after the list. -/
theorem run_of_mem {P : St F → Prop} (hk : ∀ σ s, P σ → P (step I σ s)) {s : Cmd} (hs : ∀ σ, P (step I σ s)) :
    ∀ (L : List Cmd) (σ : St F), (s ∈ L ∨ P σ) → P (run I L σ)
  | [], _, h => h.resolve_left List.not_mem_nil
  | s' :: L, σ, h => run_of_mem hk hs L (step I σ s') (by
      rcases h with h | h
      · rcases List.mem_cons.mp h with rfl | h
        · exact .inr (hs σ)
        · exact .inl h
      · exact .inr (hk σ s' h))

theorem on_keeps {p : Bool} {s : Cmd} (hs : s.on p) (σ : St F) :
    (step I σ s).out = σ.out ∧ (step I σ s).x (!p) = σ.x (!p) ∧ (step I σ s).y (!p) = σ.y (!p) := by
  match s, p, hs with
  | .deq false _, false, _ => exact ⟨rfl, rfl, rfl⟩
  | .deq true _, true, _ => exact ⟨rfl, rfl, rfl⟩
  | .quant false _ _, false, _ => exact ⟨rfl, rfl, rfl⟩
  | .quant true _ _, true, _ => exact ⟨rfl, rfl, rfl⟩

theorem run_on_keeps {p : Bool} : ∀ (L : List Cmd) (_ : ∀ s ∈ L, s.on p) (σ : St F),
    (run I L σ).out = σ.out ∧ (run I L σ).x (!p) = σ.x (!p) ∧ (run I L σ).y (!p) = σ.y (!p)
  | [], _, _ => ⟨rfl, rfl, rfl⟩
  | s :: L, h, σ => by
    have h1 := on_keeps I (h s (List.mem_cons_self ..)) σ
    have h2 := run_on_keeps L (fun s' hs' => h s' (List.mem_cons_of_mem _ hs')) (step I σ s)
    exact ⟨h2.1.trans h1.1, h2.2.1.trans h1.2.1, h2.2.2.trans h1.2.2⟩

theorem on_deqL (p : Bool) : ∀ s ∈ deqL p, s.on p := fun _ h => by
  obtain ⟨b, _, rfl⟩ := List.mem_map.mp h; rfl
theorem on_quantL (p : Bool) (c : Fin 12) : ∀ s ∈ quantL p c, s.on p := fun _ h => by
  obtain ⟨b, _, rfl⟩ := List.mem_map.mp h; rfl

theorem mem_deqL (p : Bool) (b : Fin 4) : Cmd.deq p b ∈ deqL p := List.mem_map.mpr ⟨b, List.mem_finRange b, rfl⟩
theorem mem_quantL (p : Bool) (c : Fin 12) (b : Fin 4) : Cmd.quant p c b ∈ quantL p c := List.mem_map.mpr ⟨b, List.mem_finRange b, rfl⟩

theorem quant_mem_both (p : Bool) (c : Fin 12) (b : Fin 4) : Cmd.quant p c b ∈ bothL p :=
  List.mem_append_right _ (List.mem_flatMap.mpr ⟨c, List.mem_finRange c, List.mem_append_left _ (mem_quantL p c b)⟩)
theorem quant_mem_alone (p : Bool) (c : Fin 12) (b : Fin 4) : Cmd.quant p c b ∈ aloneL p :=
  List.mem_append_right _ (List.mem_flatMap.mpr ⟨c, List.mem_finRange c, mem_quantL p c b⟩)
theorem deq_mem_both (p : Bool) (b : Fin 4) : Cmd.deq p b ∈ bothL p := List.mem_append_left _ (mem_deqL p b)
theorem deq_mem_alone (p : Bool) (b : Fin 4) : Cmd.deq p b ∈ aloneL p := List.mem_append_left _ (mem_deqL p b)

/-! ## The gradient -/

theorem step_dot (q : Bool) (c : Fin 12) (σ : St F) :
    (step I σ (.dot q c)).out = VecWindow.put σ.out ![c.val * 256, 0] S256x1024.size (dotOf σ.out (σ.x q) (σ.y q) c)
    ∧ (step I σ (.dot q c)).x q = σ.x q ∧ (step I σ (.dot q c)).y q = σ.y q := by
  match q with
  | false => exact ⟨rfl, rfl, rfl⟩
  | true => exact ⟨rfl, rfl, rfl⟩

theorem dotOf_at {O : S3072x1024.Idx → Elt F .f32} {X : S3072x512.Idx → Elt F .bf16} {Y : S512x1024.Idx → Elt F .bf16} {c c' : Fin 12}
    {j j' : S256x1024.Idx} (hc : c.val = c'.val) (h0 : (j 0).val = (j' 0).val) (h1 : (j 1).val = (j' 1).val) : dotOf O X Y c j = dotOf O X Y c' j' := by
  obtain rfl := Fin.ext hc
  congr 1; rw [eq_ix2 j, eq_ix2 j']; exact (ix2_inj _ _ _ _).mpr ⟨Fin.ext h0, Fin.ext h1⟩

/-- The chunk of a row of the gradient. -/
abbrev cOfRow (y : S3072x1024.Idx) : Fin 12 := ⟨(y 0).val / 256, by have := (y 0).isLt; change _ < 3072 at this; omega⟩

theorem put_dot_in {O : S3072x1024.Idx → Elt F .f32} {X : S3072x512.Idx → Elt F .bf16} {Y : S512x1024.Idx → Elt F .bf16} (y : S3072x1024.Idx) :
    VecWindow.put O ![(cOfRow y).val * 256, 0] S256x1024.size (dotOf O X Y (cOfRow y)) y = dotAll O X Y y := by
  have hy1 : (y 1).val < 1024 := (y 1).isLt
  refine put_eq (T := dotAll O X Y) (fun h => ?_) (.inl fun a => ?_)
  · refine dotOf_at rfl ?_ ?_
    · show (y 0).val - (y 0).val / 256 * 256 = (y 0).val % 256
      omega
    · show (y 1).val - 0 = (y 1).val
      omega
  · match a with
    | ⟨0, _⟩ =>
      show (y 0).val / 256 * 256 ≤ (y 0).val ∧ (y 0).val < (y 0).val / 256 * 256 + 256
      omega
    | ⟨1, _⟩ =>
      show 0 ≤ (y 1).val ∧ (y 1).val < 0 + 1024
      omega

theorem put_dot_out {O : S3072x1024.Idx → Elt F .f32} {w : S256x1024.Idx → Elt F .f32} {c : Fin 12} {y : S3072x1024.Idx} (h : cOfRow y ≠ c) :
    VecWindow.put O ![c.val * 256, 0] S256x1024.size w y = O y := by
  have h' : (y 0).val / 256 ≠ c.val := fun e => h (Fin.ext e)
  refine put_out (s := S3072x1024) 0 ?_
  show (y 0).val < c.val * 256 ∨ c.val * 256 + 256 ≤ (y 0).val
  omega

theorem dotAll_put {O : S3072x1024.Idx → Elt F .f32} {X : S3072x512.Idx → Elt F .bf16} {Y : S512x1024.Idx → Elt F .bf16} {w : S256x1024.Idx → Elt F .f32}
    {c : Fin 12} {y : S3072x1024.Idx} (h : cOfRow y ≠ c) :
    dotAll (VecWindow.put O ![c.val * 256, 0] S256x1024.size w) X Y y = dotAll O X Y y := by
  have h' : (y 0).val / 256 ≠ c.val := fun e => h (Fin.ext e)
  unfold dotAll dotOf
  rw [VecWindow.window_put_of_disjoint (s := S3072x1024) O ![c.val * 256, 0] S256x1024.size _ _ _ _ 0
    (by show (y 0).val / 256 * 256 + 256 ≤ c.val * 256 ∨ c.val * 256 + 256 ≤ (y 0).val / 256 * 256; omega)]

/-- Chunks of half `q`'s product, each after steps on the other half: the gradient with those chunks' products added. -/
theorem run_dots (q : Bool) (pre : Fin 12 → List Cmd) (hpre : ∀ c, ∀ s ∈ pre c, s.on (!q)) :
    ∀ (l : List (Fin 12)) (_ : l.Nodup) (σ : St F),
      (∀ y, (run I (l.flatMap fun c => pre c ++ [.dot q c]) σ).out y = if cOfRow y ∈ l then dotAll σ.out (σ.x q) (σ.y q) y else σ.out y)
      ∧ (run I (l.flatMap fun c => pre c ++ [.dot q c]) σ).x q = σ.x q ∧ (run I (l.flatMap fun c => pre c ++ [.dot q c]) σ).y q = σ.y q
  | [], _, σ => ⟨fun y => (if_neg List.not_mem_nil).symm, rfl, rfl⟩
  | c :: l, hl, σ => by
    have hk := run_on_keeps I (pre c) (hpre c) σ
    rw [Bool.not_not] at hk
    have hd := step_dot I q c (run I (pre c) σ)
    rw [hk.1, hk.2.1, hk.2.2] at hd
    have ih := run_dots q pre hpre l (List.nodup_cons.mp hl).2 (step I (run I (pre c) σ) (.dot q c))
    rw [List.flatMap_cons, run_append, run_append]
    refine ⟨fun y => ?_, ih.2.1.trans hd.2.1, ih.2.2.trans hd.2.2⟩
    refine (ih.1 y).trans ?_
    rw [hd.1, hd.2.1, hd.2.2]
    by_cases hy : cOfRow y = c
    · rw [if_neg (hy ▸ (List.nodup_cons.mp hl).1), if_pos (List.mem_cons.mpr (.inl hy))]
      obtain rfl := hy
      exact put_dot_in y
    · rw [dotAll_put hy, put_dot_out hy]
      by_cases hm : cOfRow y ∈ l
      · rw [if_pos hm, if_pos (List.mem_cons_of_mem _ hm)]
      · rw [if_neg hm, if_neg (fun h => (List.mem_cons.mp h).elim hy hm)]

/-! ## The lists -/

/-- After a half requantised beside the other half's product. -/
theorem run_both (p : Bool) (σ : St F) :
    (run I (bothL p) σ).out = dotAll σ.out (σ.x (!p)) (σ.y (!p)) ∧ (run I (bothL p) σ).x (!p) = σ.x (!p) ∧ (run I (bothL p) σ).y (!p) = σ.y (!p)
    ∧ (run I (bothL p) σ).x p = XX I p ∧ (run I (bothL p) σ).y p = YY I p := by
  have hk := run_on_keeps I (deqL p) (on_deqL p) σ
  have hd := run_dots I (!p) (quantL p) (fun c => by rw [Bool.not_not]; exact on_quantL p c) (List.finRange 12) (List.nodup_finRange 12) (run I (deqL p) σ)
  rw [hk.1, hk.2.1, hk.2.2, ← run_append] at hd
  refine ⟨funext fun y => (hd.1 y).trans (if_pos (List.mem_finRange _)), hd.2.1, hd.2.2, funext fun y => ?_, funext fun y => ?_⟩
  · exact run_of_mem I (P := fun σ => σ.x p y = XX I p y) (fun _ _ => step_x I) (fun _ => quant_x I) _ σ (.inl (quant_mem_both p _ _))
  · exact run_of_mem I (P := fun σ => σ.y p y = YY I p y) (fun _ _ => step_y I) (fun _ => deq_y I) _ σ (.inl (deq_mem_both p _))

/-- After a half requantised alone. -/
theorem run_alone (p : Bool) (σ : St F) :
    (run I (aloneL p) σ).out = σ.out ∧ (run I (aloneL p) σ).x p = XX I p ∧ (run I (aloneL p) σ).y p = YY I p := by
  refine ⟨(run_on_keeps I (p := p) (aloneL p) (fun s hs => ?_) σ).1, funext fun y => ?_, funext fun y => ?_⟩
  · rcases List.mem_append.mp hs with h | h
    · exact on_deqL p s h
    · obtain ⟨c, _, h⟩ := List.mem_flatMap.mp h
      exact on_quantL p c s h
  · exact run_of_mem I (P := fun σ => σ.x p y = XX I p y) (fun _ _ => step_x I) (fun _ => quant_x I) _ σ (.inl (quant_mem_alone p _ _))
  · exact run_of_mem I (P := fun σ => σ.y p y = YY I p y) (fun _ _ => step_y I) (fun _ => deq_y I) _ σ (.inl (deq_mem_alone p _))

/-- After a half's product. -/
theorem run_dots_all (p : Bool) (σ : St F) :
    (run I (dotsL p) σ).out = dotAll σ.out (σ.x p) (σ.y p) ∧ (run I (dotsL p) σ).x p = σ.x p ∧ (run I (dotsL p) σ).y p = σ.y p := by
  have hd := run_dots I p (fun _ => []) (fun _ _ h => absurd h List.not_mem_nil) (List.finRange 12) (List.nodup_finRange 12) σ
  exact ⟨funext fun y => (hd.1 y).trans (if_pos (List.mem_finRange _)), hd.2.1, hd.2.2⟩

/-- A list that requantises both halves leaves the point's codes and scales. -/
theorem run_codes {L : List Cmd} (hL : ∀ p c b, Cmd.quant p c b ∈ L) (σ : St F) : (run I L σ).xt = XT I ∧ (run I L σ).xs = XS I :=
  ⟨funext fun y => run_of_mem I (P := fun σ => σ.xt y = XT I y) (fun _ _ => step_xt I) (fun _ => quant_xt I) L σ (.inl (hL _ _ _)),
    funext fun y => run_of_mem I (P := fun σ => σ.xs y = XS I y) (fun _ _ => step_xs I) (fun _ => quant_xs I) L σ (.inl (hL _ _ _))⟩

/-- The first point. -/
theorem run_first (σ σ' : St F) (hx : σ'.xa = (run I (alone false []) σ).xa) (hy : σ'.ya = (run I (alone false []) σ).ya) :
    (run I (both true []) σ').out = dotAll σ'.out (XX I false) (YY I false)
    ∧ (run I (both true []) σ').xb = XX I true ∧ (run I (both true []) σ').yb = YY I true := by
  have ha := run_alone I false σ
  have hb := run_both I true σ'
  refine ⟨hb.1.trans ?_, hb.2.2.2.1, hb.2.2.2.2⟩
  show dotAll σ'.out σ'.xa σ'.ya = _
  rw [hx, hy]
  exact congrArg₂ (dotAll _) ha.2.1 ha.2.2

theorem run_first_codes (σ σ' : St F) (ht : σ'.xt = (run I (alone false []) σ).xt) (hs : σ'.xs = (run I (alone false []) σ).xs) :
    (run I (both true []) σ').xt = XT I ∧ (run I (both true []) σ').xs = XS I := by
  refine ⟨funext fun y => ?_, funext fun y => ?_⟩
  · refine run_of_mem I (P := fun σ => σ.xt y = XT I y) (fun _ _ => step_xt I) (fun _ => quant_xt I) (bothL true) σ' ?_
    cases hp : hOf (y 0) with
    | true => exact .inl (quant_mem_both _ _ _)
    | false =>
      have hm : Cmd.quant (hOf (y 0)) (chOf (gOf (y 1))) (bOf (y 0)) ∈ aloneL false := by rw [hp]; exact quant_mem_alone _ _ _
      refine .inr (by
        rw [ht]
        exact run_of_mem I (P := fun σ => σ.xt y = XT I y) (fun _ _ => step_xt I) (fun _ => quant_xt I) (aloneL false) σ (.inl hm))
  · refine run_of_mem I (P := fun σ => σ.xs y = XS I y) (fun _ _ => step_xs I) (fun _ => quant_xs I) (bothL true) σ' ?_
    cases hp : decide (4 ≤ (y 1).val) with
    | true => exact .inl (quant_mem_both _ _ _)
    | false =>
      have hm : Cmd.quant (decide (4 ≤ (y 1).val)) (chOf (gOf (y 2))) ⟨(y 1).val % 4, Nat.mod_lt _ (by decide)⟩ ∈ aloneL false := by
        rw [hp]; exact quant_mem_alone _ _ _
      refine .inr (by
        rw [hs]
        exact run_of_mem I (P := fun σ => σ.xs y = XS I y) (fun _ _ => step_xs I) (fun _ => quant_xs I) (aloneL false) σ (.inl hm))

theorem quant_mem_mid (p : Bool) (c : Fin 12) (b : Fin 4) (L : List Cmd) : Cmd.quant p c b ∈ bothL false ++ (bothL true ++ L) := by
  cases p
  · exact List.mem_append_left _ (quant_mem_both _ _ _)
  · exact List.mem_append_right _ (List.mem_append_left _ (quant_mem_both _ _ _))

/-- A point between the first and the last. -/
theorem run_mid (σ : St F) :
    (run I (both false (both true [])) σ).out = dotAll (dotAll σ.out σ.xb σ.yb) (XX I false) (YY I false)
    ∧ (run I (both false (both true [])) σ).xb = XX I true ∧ (run I (both false (both true [])) σ).yb = YY I true
    ∧ (run I (both false (both true [])) σ).xt = XT I ∧ (run I (both false (both true [])) σ).xs = XS I := by
  have h : run I (both false (both true [])) σ = run I (bothL true) (run I (bothL false) σ) := by
    rw [both_eq false, run_append, both_eq true, List.append_nil]
  have ha := run_both I false σ
  have hb := run_both I true (run I (bothL false) σ)
  have hc := run_codes I (fun p c b => quant_mem_mid p c b []) σ
  refine ⟨?_, ?_, ?_, hc.1, hc.2⟩
  · rw [h, hb.1]
    show dotAll _ ((run I (bothL false) σ).x false) ((run I (bothL false) σ).y false) = _
    rw [ha.1, ha.2.2.2.1, ha.2.2.2.2]; rfl
  · rw [h]; exact hb.2.2.2.1
  · rw [h]; exact hb.2.2.2.2

/-- The last point. -/
theorem run_last (σ : St F) :
    (run I (both false (both true (dots true []))) σ).out = dotAll (dotAll (dotAll σ.out σ.xb σ.yb) (XX I false) (YY I false)) (XX I true) (YY I true)
    ∧ (run I (both false (both true (dots true []))) σ).xb = XX I true ∧ (run I (both false (both true (dots true []))) σ).yb = YY I true
    ∧ (run I (both false (both true (dots true []))) σ).xt = XT I ∧ (run I (both false (both true (dots true []))) σ).xs = XS I := by
  have h : run I (both false (both true (dots true []))) σ = run I (dotsL true) (run I (both false (both true [])) σ) := by
    rw [both_eq false, both_eq true, dots_eq, List.append_nil, ← List.append_assoc, run_append, both_eq false, both_eq true, List.append_nil]
  have hm := run_mid I σ
  have hd := run_dots_all I true (run I (both false (both true [])) σ)
  have hc := run_codes I (fun p c b => quant_mem_mid p c b (dotsL true ++ [])) σ
  refine ⟨?_, ?_, ?_, hc.1, hc.2⟩
  · rw [h, hd.1]
    show dotAll _ (run I (both false (both true [])) σ).xb (run I (both false (both true [])) σ).yb = _
    rw [hm.1, hm.2.1, hm.2.2.1]
  · rw [h]; exact hd.2.1.trans hm.2.1
  · rw [h]; exact hd.2.2.trans hm.2.2.1

end Cert.KernelIdeal.Steps
-- ==== Proof.KernelIdeal.Point.lean ====
/- The body at one point of the grid: the first, one between, the last. -/
module

public import proofs.«01_k».proof.Proof.KernelIdeal.Body
public import proofs.«01_k».proof.Proof.KernelIdeal.State

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (I : In F) (𝒱 : Variants) (c : Dev nD) (bd : Option 𝒱.V)

variable (i : grid0.Coords)
  {arg1 : Memref sig .tc .vmem S1024x3072 .fp8e4m3} {harg1 : arg1.IsWhole} {arg2 : Memref sig .tc .vmem S1x1024x24 .f32} {harg2 : arg2.IsWhole}
  {arg3 : Memref sig .tc .vmem S1024x1024 .fp8e5m2} {harg3 : arg3.IsWhole} {arg4 : Memref sig .tc .vmem S1x8x1024 .f32} {harg4 : arg4.IsWhole}
  {arg6 : Memref sig .tc .vmem S3072x1024 .f32} {harg6 : arg6.IsWhole}
  {arg7 : Memref sig .tc .vmem S1024x3072 .fp8e4m3} {harg7 : arg7.IsWhole} {arg8 : Memref sig .tc .vmem S1x8x3072 .f32} {harg8 : arg8.IsWhole}
  {arg9 : Memref sig .tc .vmem S3072x512 .bf16} {harg9 : arg9.IsWhole} {arg10 : Memref sig .tc .vmem S3072x512 .bf16} {harg10 : arg10.IsWhole}
  {arg11 : Memref sig .tc .vmem S512x1024 .bf16} {harg11 : arg11.IsWhole} {arg12 : Memref sig .tc .vmem S512x1024 .bf16} {harg12 : arg12.IsWhole}

theorem wp_mid (h1 : ¬ k0_cond1 i = 1#1) (h2 : k0_cond2 i = 1#1) (h3 : ¬ k0_cond3 i = 1#1) (σ : St F) {Q : PUnit.{1} → sProp 𝕄} :
    iprop(ins I c (bufs arg1 arg2 arg3 arg4 arg6 arg7 harg7 arg8 arg9 harg9 arg10 harg10 arg11 harg11 arg12 harg12) ∗ sts c (bufs arg1 arg2 arg3 arg4 arg6 arg7 harg7 arg8 arg9 harg9 arg10 harg10 arg11 harg11 arg12 harg12) σ ∗ owns (c : Thread nD τ) arg6 fullShare σ.out)
      ⊢ iprop((ins I c (bufs arg1 arg2 arg3 arg4 arg6 arg7 harg7 arg8 arg9 harg9 arg10 harg10 arg11 harg11 arg12 harg12) -∗ sts c (bufs arg1 arg2 arg3 arg4 arg6 arg7 harg7 arg8 arg9 harg9 arg10 harg10 arg11 harg11 arg12 harg12) (run I (both false (both true [])) σ)
            -∗ owns (c : Thread nD τ) arg6 fullShare (run I (both false (both true [])) σ).out -∗ Q ⟨⟩)
        -∗ wp frame (wpE (defs₀ (F := F)) 𝒱 (c : Thread nD τ) bd) Set.univ (cc0_fp8_weight_grad (F := F) i arg1 harg1 arg2 harg2 arg3 harg3 arg4 harg4 (Memref.whole main_arg4) (Memref.isWhole_whole _) arg6 harg6 arg7 harg7 arg8 harg8 arg9 harg9 arg10 harg10 arg11 harg11 arg12 harg12 cc0_scratch4) Q) := by
  rw [← mid_eq.{1} (h1 := h1) (h2 := h2) (h3 := h3)]
  iintro H Hk
  iapply (wp_denote I 𝒱 c bd) $$ H
  iintro Hi Hs Ho
  sl_step
  iapply Hk $$ Hi Hs Ho

theorem wp_last (h1 : ¬ k0_cond1 i = 1#1) (h2 : k0_cond2 i = 1#1) (h3 : k0_cond3 i = 1#1) (σ : St F) {Q : PUnit.{1} → sProp 𝕄} :
    iprop(ins I c (bufs arg1 arg2 arg3 arg4 arg6 arg7 harg7 arg8 arg9 harg9 arg10 harg10 arg11 harg11 arg12 harg12) ∗ sts c (bufs arg1 arg2 arg3 arg4 arg6 arg7 harg7 arg8 arg9 harg9 arg10 harg10 arg11 harg11 arg12 harg12) σ ∗ owns (c : Thread nD τ) arg6 fullShare σ.out)
      ⊢ iprop((ins I c (bufs arg1 arg2 arg3 arg4 arg6 arg7 harg7 arg8 arg9 harg9 arg10 harg10 arg11 harg11 arg12 harg12) -∗ sts c (bufs arg1 arg2 arg3 arg4 arg6 arg7 harg7 arg8 arg9 harg9 arg10 harg10 arg11 harg11 arg12 harg12) (run I (both false (both true (dots true []))) σ)
            -∗ owns (c : Thread nD τ) arg6 fullShare (run I (both false (both true (dots true []))) σ).out -∗ Q ⟨⟩)
        -∗ wp frame (wpE (defs₀ (F := F)) 𝒱 (c : Thread nD τ) bd) Set.univ (cc0_fp8_weight_grad (F := F) i arg1 harg1 arg2 harg2 arg3 harg3 arg4 harg4 (Memref.whole main_arg4) (Memref.isWhole_whole _) arg6 harg6 arg7 harg7 arg8 harg8 arg9 harg9 arg10 harg10 arg11 harg11 arg12 harg12 cc0_scratch4) Q) := by
  rw [← last_eq.{1} (h1 := h1) (h2 := h2) (h3 := h3)]
  iintro H Hk
  iapply (wp_denote I 𝒱 c bd) $$ H
  iintro Hi Hs Ho
  sl_step
  iapply Hk $$ Hi Hs Ho

/-- The first point: the gradient's buffer is lent to the transfer that fills it while the first half is requantised. -/
theorem wp_first (hN : 0 < arg6.view.dmaCredit) (h1 : k0_cond1 i = 1#1) (h2 : ¬ k0_cond2 i = 1#1) (h3 : ¬ k0_cond3 i = 1#1) (σ : St F)
    {G : S3072x1024.Idx → Elt F .f32} {d : S3072x1024.Idx → Elt F .f32} {W : Waits sig Unit} {Q : PUnit.{1} → sProp 𝕄} :
    iprop(ins I c (bufs arg1 arg2 arg3 arg4 arg6 arg7 harg7 arg8 arg9 harg9 arg10 harg10 arg11 harg11 arg12 harg12) ∗ sts c (bufs arg1 arg2 arg3 arg4 arg6 arg7 harg7 arg8 arg9 harg9 arg10 harg10 arg11 harg11 arg12 harg12) σ ∗ owns (c : Thread nD τ) arg6 fullShare d ∗ owns (c : Thread nD τ) (Memref.whole main_arg4) fullShare G
        ∗ semVal ((c : Thread nD τ), SemLoc.dma cc0_scratch4.sem) 0 ∗ owes (c : Thread nD τ) 0 W)
      ⊢ iprop((ins I c (bufs arg1 arg2 arg3 arg4 arg6 arg7 harg7 arg8 arg9 harg9 arg10 harg10 arg11 harg11 arg12 harg12) -∗ sts c (bufs arg1 arg2 arg3 arg4 arg6 arg7 harg7 arg8 arg9 harg9 arg10 harg10 arg11 harg11 arg12 harg12) (run I (both true []) { run I (alone false []) σ with out := G })
            -∗ owns (c : Thread nD τ) arg6 fullShare (run I (both true []) { run I (alone false []) σ with out := G }).out
            -∗ owns (c : Thread nD τ) (Memref.whole main_arg4) fullShare G
            -∗ semVal ((c : Thread nD τ), SemLoc.dma cc0_scratch4.sem) 0 -∗ (∃ W', owes (c : Thread nD τ) 0 W') -∗ Q ⟨⟩)
        -∗ wp frame (wpE (defs₀ (F := F)) 𝒱 (c : Thread nD τ) bd) Set.univ (cc0_fp8_weight_grad (F := F) i arg1 harg1 arg2 harg2 arg3 harg3 arg4 harg4 (Memref.whole main_arg4) (Memref.isWhole_whole _) arg6 harg6 arg7 harg7 arg8 harg8 arg9 harg9 arg10 harg10 arg11 harg11 arg12 harg12 cc0_scratch4) Q) := by
  rw [← first_eq.{1, 1} (h1 := h1) (h2 := h2) (h3 := h3)]
  iintro ⟨Hi, Hs, Ho, Hg, Hv, HW⟩ Hk
  unfold owns
  icases Ho with ⟨%fd, %hfd, Ho⟩
  icases Hg with ⟨%fg, %hfg, Hg⟩
  iapply (Transfers.wp_dmaLocal (countersEmb (U := Pipeline.UD sig nD τ)) 𝒱 (c : Thread nD τ) bd () arg6.view.dmaCredit rfl hN (Finset.Subset.refl _)) $$ [Ho Hg Hv]
  · iframe
  iintro Hf
  iapply (wp_denote_quiet I 𝒱 c bd (alone false []) (quiet_alone false)) $$ [Hi Hs]
  · iframe
  iintro Hi Hs
  iapply (Transfers.wp_waitLocal (countersEmb (U := Pipeline.UD sig nD τ)) 𝒱 (c : Thread nD τ) bd () rfl) $$ [Hf HW]
  · iframe
  iintro ⟨⟨Ho, Hg⟩, Hv, HW⟩
  iapply (wp_denote I 𝒱 c bd (both true []) { run I (alone false []) σ with out := G }) $$ [Hi Hs Ho]
  · isplitl [Hi]; · iexact Hi
    isplitl [Hs]; · iexact Hs
    unfold owns; iexists _; isplitr
    swap; · iexact Ho
    ipureintro
    rw [View.read_write_univ]; exact hfg
  iintro Hi Hs Ho
  sl_step
  iapply Hk $$ Hi Hs [Ho] [Hg] Hv
  · unfold owns; iexact Ho
  · iexists _; isplitr
    swap; · iexact Hg
    ipureintro; exact hfg
  iexists _; iexact HW

end Cert.KernelIdeal.Steps
-- ==== Proof.KernelIdeal.Frame.lean ====
/- The run: what the pipeline carries from point to point, the body at every point, the arrays at the end.

   Between points the gradient's staging buffer holds the sum so far, the second pair of factor buffers the half the
   point before left for this one, and the transfer's semaphore stands at zero. -/
module

public import proofs.«01_k».proof.Proof.Gen.KernelIdeal.Frame
public import proofs.«01_k».proof.Proof.KernelIdeal.Point

@[expose] public section

set_option maxRecDepth 16384

noncomputable section

namespace Cert.KernelIdeal.Steps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the pipeline carries -/

/-- The point of number `n` (taken modulo the grid's size). -/
def pt (n : ℕ) : Fin cfg0.N := ⟨n % 80, Nat.lt_of_lt_of_eq (Nat.mod_lt _ (by decide)) N_0.symm⟩

theorem pt_val (t : Fin cfg0.N) : pt t.val = t := Fin.ext (Nat.mod_eq_of_lt (Nat.lt_of_lt_of_eq t.isLt N_0))

/-- The four input blocks of a point. -/
def inAt (c : Dev nD) (t : Fin cfg0.N) : In F := ⟨iblk m c 0 t, iblk m c 1 t, iblk m c 2 t, iblk m c 3 t⟩

/-- The initial gradient with the halves up to the first half of point `n` added. -/
def gradTo (c : Dev nD) : ℕ → (S3072x1024.Idx → Elt F .f32)
  | 0 => dotAll (V m c main_arg4) (XX (inAt m c (pt 0)) false) (YY (inAt m c (pt 0)) false)
  | n + 1 => dotAll (dotAll (gradTo c n) (XX (inAt m c (pt n)) true) (YY (inAt m c (pt n)) true))
      (XX (inAt m c (pt (n + 1))) false) (YY (inAt m c (pt (n + 1))) false)

/-- The gradient's buffer after point `n`: the last point adds its second half as well. -/
def gradAt (c : Dev nD) (n : ℕ) : S3072x1024.Idx → Elt F .f32 :=
  if n = 79 then dotAll (gradTo m c 79) (XX (inAt m c (pt 79)) true) (YY (inAt m c (pt 79)) true) else gradTo m c n

/-- What is carried to point `n`, besides the staged blocks. -/
def inv (c : Dev nD) (n : ℕ) : sProp 𝕄 :=
  iprop((∃ xa xb ya yb, ⌜∀ k, n = k + 1 → xb = XX (inAt m c (pt k)) true ∧ yb = YY (inAt m c (pt k)) true⌝
      ∗ owns (c : Thread nD τ) (Memref.whole cc0_scratch0) fullShare xa ∗ owns (c : Thread nD τ) (Memref.whole cc0_scratch1) fullShare xb
      ∗ owns (c : Thread nD τ) (Memref.whole cc0_scratch2) fullShare ya ∗ owns (c : Thread nD τ) (Memref.whole cc0_scratch3) fullShare yb)
    ∗ (∃ r, prngReg c r) ∗ semVal ((c : Thread nD τ), SemLoc.dma cc0_scratch4.sem) 0
    ∗ owns (c : Thread nD τ) (Memref.whole main_arg4) fullShare (V m c main_arg4))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => gradAt m c t.val
    | ⟨5, _⟩ => XT (inAt m c t)
    | ⟨6, _⟩ => XS (inAt m c t)
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = gradAt m c t.val := by dsimp only [dats]
theorem after_5 (c : Dev nD) (t : Fin cfg0.N) : (dats m 0 c).after 5 t = XT (inAt m c t) := by dsimp only [dats]
theorem after_6 (c : Dev nD) (t : Fin cfg0.N) : (dats m 0 c).after 6 t = XS (inAt m c t) := by dsimp only [dats]

/-! ## What the staging buffers hold before a point -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- Every point stores to the gradient's buffer, and to both the codes' and the scales'. -/
theorem live_4 : ∀ i : cfg0.grid.Coords, cfg0.idle 4 i = false := (by decide +kernel : ∀ i : grid0.Coords, idle0 4 i = false)
theorem live_5 : ∀ i : cfg0.grid.Coords, cfg0.idle 5 i = false := (by decide +kernel : ∀ i : grid0.Coords, idle0 5 i = false)

/-- After the first point the gradient's buffer holds the sum so far. -/
theorem before_4 (c : Dev nD) (t : Fin cfg0.N) (k : ℕ) (hk : t.val = k + 1) (d) : (dats m 0 c).before 4 t d = gradTo m c k := by
  have hN := Nat.lt_of_lt_of_eq t.isLt N_0
  rw [(dats m 0 c).before_out_kept 4 rfl t (by omega) (by
      rw [← Bool.not_eq_true]; intro h
      have h' : (t.val - 1) % 80 = 79 := (flush0_4 _).1 h
      omega) live_4 (fun _ _ => rfl), after_4]
  unfold gradAt
  have : t.val - 1 = k := by omega
  simp only [this]
  rw [if_neg (by omega)]

/-! ## The body at a point -/

theorem cond_1 : ∀ t : Fin cfg0.N, k0_cond1 (grid0.coords t) = 1#1 ↔ t.val = 0 := (by decide +kernel : ∀ t : Fin grid0.N, k0_cond1 (grid0.coords t) = 1#1 ↔ t.val = 0)
theorem cond_2 : ∀ t : Fin cfg0.N, k0_cond2 (grid0.coords t) = 1#1 ↔ t.val ≠ 0 := (by decide +kernel : ∀ t : Fin grid0.N, k0_cond2 (grid0.coords t) = 1#1 ↔ t.val ≠ 0)
theorem cond_3 : ∀ t : Fin cfg0.N, k0_cond3 (grid0.coords t) = 1#1 ↔ t.val = 79 := (by decide +kernel : ∀ t : Fin grid0.N, k0_cond3 (grid0.coords t) = 1#1 ↔ t.val = 79)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The buffers at a point. -/
abbrev bufsAt (t : Fin cfg0.N) : Bufs :=
  bufs (st0_0 t) (st0_1 t) (st0_2 t) (st0_3 t) (st0_4 t) (st0_5 t) (hstage0_5 ((cfg0.slots t 5).cast nbuf0_5)) (st0_6 t)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)

/-- The obligation's post from what the steps leave. -/
theorem post_of (c : Dev nD) (t : Fin cfg0.N) (σ : St F) (ho : σ.out = gradAt m c t.val)
    (hx : σ.xb = XX (inAt m c t) true) (hy : σ.yb = YY (inAt m c t) true) (ht : σ.xt = XT (inAt m c t)) (hs : σ.xs = XS (inAt m c t)) :
    iprop(ins (inAt m c t) c (bufsAt t) ∗ sts c (bufsAt t) σ ∗ owns (c : Thread nD τ) (st0_4 t) fullShare σ.out
        ∗ owns (c : Thread nD τ) (Memref.whole main_arg4) fullShare (V m c main_arg4) ∗ (∃ r, prngReg c r)
        ∗ semVal ((c : Thread nD τ), SemLoc.dma cc0_scratch4.sem) 0 ∗ (∃ W, owes (c : Thread nD τ) 0 W))
      ⊢ bodyPost m c t := by
  unfold bodyPost
  rw [after_0, after_1, after_2, after_3, after_4, after_5, after_6, ← ho, ← ht, ← hs]
  rw [show (dats m 0 c).Φ t.succ = inv m c (t.val + 1) from rfl]
  unfold Dat.owesAt Pipeline.owesWithin
  rw [show (dats m 0 c).owed t.succ = 0 from rfl]
  unfold ins sts inv
  iintro ⟨⟨H0, H1, H2, H3⟩, ⟨H5, H6, Ha, Hb, Hc, Hd⟩, H4, Hg, Hr, Hv, ⟨%W, HW⟩⟩
  isplitl [Ha Hb Hc Hd Hr Hv Hg]
  · isplitl [Ha Hb Hc Hd]
    · iexists σ.xa, σ.xb, σ.ya, σ.yb
      isplitr
      · ipureintro
        intro k hk
        obtain rfl : t.val = k := by omega
        rw [pt_val]; exact ⟨hx, hy⟩
      isplitl [Ha]; · iexact Ha
      isplitl [Hb]; · iexact Hb
      isplitl [Hc]; · iexact Hc
      iexact Hd
    isplitl [Hr]; · iexact Hr
    isplitl [Hv]; · iexact Hv
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

theorem sound_body (c : Dev nD) (t : Fin cfg0.N) :
    bodyPre m c t ⊢ wp frame (wpE (defs₀ (F := F)) Variants.none c none) Set.univ (bodyAt0 t) (fun _ => bodyPost m c t) := by
  have hN := Nat.lt_of_lt_of_eq t.isLt N_0
  unfold bodyPre bodyAt0
  simp only [before_0, before_1, before_2, before_3]
  rw [show (dats m 0 c).Φ t.castSucc = inv m c t.val from rfl]
  unfold Dat.owesAt Pipeline.owesWithin
  rw [show (dats m 0 c).owed t.castSucc = 0 from rfl]
  unfold inv
  iintro ⟨⟨⟨%xa, %xb, %ya, %yb, %hb, Ha, Hb, Hc, Hd⟩, Hr, Hv, Hg⟩, ⟨%W, -, HW⟩, ⟨%d0, H0⟩, ⟨%d1, H1⟩, ⟨%d2, H2⟩, ⟨%d3, H3⟩, ⟨%d4, H4⟩, ⟨%d5, H5⟩, ⟨%d6, H6⟩⟩
  by_cases h0 : t.val = 0
  · iapply (wp_first (inAt m c t) Variants.none c none (grid0.coords t) (View.dmaCredit_pos _ (by decide)) ((cond_1 t).2 h0) (fun h => (cond_2 t).1 h h0)
      (fun h => by have := (cond_3 t).1 h; omega) ⟨V m c main_arg4, (dats m 0 c).before 5 t d5, (dats m 0 c).before 6 t d6, xa, xb, ya, yb⟩) $$ [H0 H1 H2 H3 H4 H5 H6 Ha Hb Hc Hd Hv Hg HW]
    · unfold ins sts
      isplitl [H0 H1 H2 H3]
      · isplitl [H0]; · iexact H0
        isplitl [H1]; · iexact H1
        isplitl [H2]; · iexact H2
        iexact H3
      isplitl [H5 H6 Ha Hb Hc Hd]
      · isplitl [H5]; · iexact H5
        isplitl [H6]; · iexact H6
        isplitl [Ha]; · iexact Ha
        isplitl [Hb]; · iexact Hb
        isplitl [Hc]; · iexact Hc
        iexact Hd
      isplitl [H4]; · iexact H4
      isplitl [Hg]; · iexact Hg
      isplitl [Hv]; · iexact Hv
      iexact HW
    iintro Hi Hs Ho Hg Hv HW
    have e := run_first (inAt m c t) ⟨V m c main_arg4, (dats m 0 c).before 5 t d5, (dats m 0 c).before 6 t d6, xa, xb, ya, yb⟩
      { run (inAt m c t) (alone false []) ⟨V m c main_arg4, (dats m 0 c).before 5 t d5, (dats m 0 c).before 6 t d6, xa, xb, ya, yb⟩ with out := V m c main_arg4 } rfl rfl
    have e' := run_first_codes (inAt m c t) ⟨V m c main_arg4, (dats m 0 c).before 5 t d5, (dats m 0 c).before 6 t d6, xa, xb, ya, yb⟩
      { run (inAt m c t) (alone false []) ⟨V m c main_arg4, (dats m 0 c).before 5 t d5, (dats m 0 c).before 6 t d6, xa, xb, ya, yb⟩ with out := V m c main_arg4 } rfl rfl
    iapply (post_of m c t _ (e.1.trans (by
      unfold gradAt; rw [if_neg (by omega), h0]
      show _ = dotAll _ _ _
      rw [show pt 0 = t from by rw [← h0]; exact pt_val t])) e.2.1 e.2.2 e'.1 e'.2)
    isplitl [Hi]; · iexact Hi
    isplitl [Hs]; · iexact Hs
    isplitl [Ho]; · iexact Ho
    isplitl [Hg]; · iexact Hg
    isplitl [Hr]; · iexact Hr
    isplitl [Hv]; · iexact Hv
    iexact HW
  obtain ⟨k, hk⟩ : ∃ k, t.val = k + 1 := ⟨t.val - 1, by omega⟩
  obtain ⟨rfl, rfl⟩ := hb k hk
  have hp : pt (k + 1) = t := by rw [← hk]; exact pt_val t
  rw [before_4 m c t k hk]
  by_cases h9 : t.val = 79
  · have e := run_last (inAt m c t) ⟨gradTo m c k, (dats m 0 c).before 5 t d5, (dats m 0 c).before 6 t d6, xa, XX (inAt m c (pt k)) true, ya, YY (inAt m c (pt k)) true⟩
    iapply (wp_last (inAt m c t) Variants.none c none (grid0.coords t) (fun h => h0 ((cond_1 t).1 h)) ((cond_2 t).2 h0)
      ((cond_3 t).2 h9) ⟨gradTo m c k, (dats m 0 c).before 5 t d5, (dats m 0 c).before 6 t d6, xa, XX (inAt m c (pt k)) true, ya, YY (inAt m c (pt k)) true⟩) $$ [H0 H1 H2 H3 H4 H5 H6 Ha Hb Hc Hd]
    · unfold ins sts
      isplitl [H0 H1 H2 H3]
      · isplitl [H0]; · iexact H0
        isplitl [H1]; · iexact H1
        isplitl [H2]; · iexact H2
        iexact H3
      isplitl [H5 H6 Ha Hb Hc Hd]
      · isplitl [H5]; · iexact H5
        isplitl [H6]; · iexact H6
        isplitl [Ha]; · iexact Ha
        isplitl [Hb]; · iexact Hb
        isplitl [Hc]; · iexact Hc
        iexact Hd
      iexact H4
    iintro Hi Hs Ho
    iapply (post_of m c t _ (e.1.trans (by
      unfold gradAt; rw [if_pos h9]
      obtain rfl : k = 78 := by omega
      show _ = dotAll (dotAll _ _ _) _ _
      rw [show pt 79 = t from hp])) e.2.1 e.2.2.1 e.2.2.2.1 e.2.2.2.2)
    isplitl [Hi]; · iexact Hi
    isplitl [Hs]; · iexact Hs
    isplitl [Ho]; · iexact Ho
    isplitl [Hg]; · iexact Hg
    isplitl [Hr]; · iexact Hr
    isplitl [Hv]; · iexact Hv
    iexists _; iexact HW
  · have e := run_mid (inAt m c t) ⟨gradTo m c k, (dats m 0 c).before 5 t d5, (dats m 0 c).before 6 t d6, xa, XX (inAt m c (pt k)) true, ya, YY (inAt m c (pt k)) true⟩
    iapply (wp_mid (inAt m c t) Variants.none c none (grid0.coords t) (fun h => h0 ((cond_1 t).1 h)) ((cond_2 t).2 h0)
      (fun h => h9 ((cond_3 t).1 h)) ⟨gradTo m c k, (dats m 0 c).before 5 t d5, (dats m 0 c).before 6 t d6, xa, XX (inAt m c (pt k)) true, ya, YY (inAt m c (pt k)) true⟩) $$ [H0 H1 H2 H3 H4 H5 H6 Ha Hb Hc Hd]
    · unfold ins sts
      isplitl [H0 H1 H2 H3]
      · isplitl [H0]; · iexact H0
        isplitl [H1]; · iexact H1
        isplitl [H2]; · iexact H2
        iexact H3
      isplitl [H5 H6 Ha Hb Hc Hd]
      · isplitl [H5]; · iexact H5
        isplitl [H6]; · iexact H6
        isplitl [Ha]; · iexact Ha
        isplitl [Hb]; · iexact Hb
        isplitl [Hc]; · iexact Hc
        iexact Hd
      iexact H4
    iintro Hi Hs Ho
    iapply (post_of m c t _ (e.1.trans (by
      unfold gradAt; rw [if_neg h9, hk]
      show _ = dotAll (dotAll _ _ _) _ _
      rw [hp])) e.2.1 e.2.2.1 e.2.2.2.1 e.2.2.2.2)
    isplitl [Hi]; · iexact Hi
    isplitl [Hs]; · iexact Hs
    isplitl [Ho]; · iexact Ho
    isplitl [Hg]; · iexact Hg
    isplitl [Hr]; · iexact Hr
    isplitl [Hv]; · iexact Hv
    iexists _; iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  rw [live_4, live_5]
  exact triple_restated (sound_body m c t) rfl .rfl fun _ => .rfl

/-! ## The run -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's one semaphore, and the operand its transfer reads. -/
abbrev osem0 : Fin 1 → SemLoc sig := fun j => (![SemLoc.dma 13] : Fin 1 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch4.sem) 0 := by
  rw [Pipeline.ownSems0_eq_of_list c osem0 [0] (by decide) (by decide)]; rfl
def H0 : Finset (Ref sig .tc) := {main_arg4}
theorem H0_sub : H0 ⊆ Pipeline.restRefs sig spec0 := by decide
theorem hbm_eq (c : Dev nD) :
    (bigSep H0 (fun b => ((c : Thread nD τ).loc b) ↦{fullShare} V m c b) : sProp 𝕄)
      = owns (c : Thread nD τ) (Memref.whole main_arg4) fullShare (V m c main_arg4) := by
  rw [owns_whole, BI.bigSep_eq_bigSepL_of_eq [main_arg4] (by decide) (by decide)]; rfl

theorem inv_in (c : Dev nD) : Pipeline.ΦD osem0 spec0 H0 (V m) c ⊢ inv m c 0 := by
  unfold Pipeline.ΦD inv
  rw [scopedRest0_eq, ownSems0_eq, hbm_eq]
  simp only [owns_whole]
  iintro ⟨⟨⟨%fa, Ha⟩, ⟨%fb, Hb⟩, ⟨%fc, Hc⟩, ⟨%fd, Hd⟩⟩, Hr, Hv, Hg⟩
  isplitl [Ha Hb Hc Hd]
  · iexists fa, fb, fc, fd
    isplitr
    · ipureintro; intro k hk; omega
    isplitl [Ha]; · iexact Ha
    isplitl [Hb]; · iexact Hb
    isplitl [Hc]; · iexact Hc
    iexact Hd
  isplitl [Hr]; · iexact Hr
  isplitl [Hv]; · iexact Hv
  iexact Hg

theorem inv_out (c : Dev nD) (n : ℕ) : inv m c n ⊢ Pipeline.ΦD osem0 spec0 H0 (V m) c := by
  unfold Pipeline.ΦD inv
  rw [scopedRest0_eq, ownSems0_eq, hbm_eq]
  simp only [owns_whole]
  iintro ⟨⟨%fa, %fb, %fc, %fd, -, Ha, Hb, Hc, Hd⟩, Hr, Hv, Hg⟩
  isplitl [Ha Hb Hc Hd]
  · isplitl [Ha]; · iexists fa; iexact Ha
    isplitl [Hb]; · iexists fb; iexact Hb
    isplitl [Hc]; · iexists fc; iexact Hc
    iexists fd; iexact Hd
  isplitl [Hr]; · iexact Hr
  isplitl [Hv]; · iexact Hv
  iexact Hg

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => inv_in m c) (hout := fun c => inv_out m c _)

/-- The arguments end unchanged, at a run of the data above. -/
theorem args_of (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_of m r h.1, h.2⟩) (run_main m ρ)

end Cert.KernelIdeal.Steps
-- ==== Proof.Value.Scalar.lean ====
/- The power-of-two quantiser of one number over the extended reals: the exponent field found by a ladder of words, and
   the least exponent above found by a ladder of powers, give the same scale and the same inverse. -/
module

public import Idealize.ShloMosaic.PureOps.Ideal
public import Idealize.ShloMosaic.PureOps.Reduce

@[expose] public section

noncomputable section

namespace Cert.Quant

open Idealize.ShloMosaic

/-- The float whose exponent field is `k` and whose other bits are zero. -/
def lev (k : BitVec 32) : EReal := Ideal.ofBits .f32 (k <<< (23#32))

theorem lev_real {k : ℕ} (h1 : 1 ≤ k) (h2 : k ≤ 254) : lev (BitVec.ofNat 32 k) = (((2 : ℝ) ^ ((k : ℤ) - 127) : ℝ) : EReal) := by
  have hs : ∀ k : Fin 255, (((BitVec.ofNat 32 k.val <<< (23#32)).extractLsb' 31 1 == 1#1) = false)
      ∧ ((BitVec.ofNat 32 k.val <<< (23#32)).extractLsb' 23 8).toNat = k.val ∧ ((BitVec.ofNat 32 k.val <<< (23#32)).extractLsb' 0 23).toNat = 0 := by decide +kernel
  obtain ⟨ha, hb, hc⟩ := hs ⟨k, by omega⟩
  simp only at ha hb hc
  unfold lev Ideal.ofBits Ideal.ieee
  simp only [show 8 + 23 = 31 from rfl, ha, hb, hc]
  rw [if_neg (by omega), if_neg (by omega)]
  simp only [Bool.false_eq_true, if_false, one_mul, Nat.add_zero]
  refine EReal.coe_eq_coe_iff.mpr ?_
  have hz : ((k : ℤ) - 127 : ℤ) = 23 + ((k : ℤ) - 127 - 23) := by ring
  rw [hz, zpow_add₀ (by norm_num : (2 : ℝ) ≠ 0)]
  norm_num

theorem lev_zero : lev 0#32 = 0 := by simp [lev, Ideal.ofBits, Ideal.ieee]
theorem lev_top : lev 255#32 = ⊤ := by simp [lev, Ideal.ofBits, Ideal.ieee]
theorem lev_over : lev 256#32 = 0 := by simp [lev, Ideal.ofBits, Ideal.ieee]

theorem lev_lt {j k : ℕ} (h : j < k) (hk : k ≤ 255) : lev (BitVec.ofNat 32 j) < lev (BitVec.ofNat 32 k) := by
  rcases Nat.eq_zero_or_pos j with rfl | hj
  · rw [show BitVec.ofNat 32 0 = 0#32 from rfl, lev_zero]
    rcases Nat.lt_or_ge k 255 with hk' | hk'
    · rw [lev_real (by omega) (by omega)]; exact_mod_cast (by positivity : (0 : ℝ) < 2 ^ ((k : ℤ) - 127))
    · obtain rfl : k = 255 := by omega
      rw [lev_top]; exact EReal.zero_lt_top
  · rw [lev_real hj (by omega)]
    rcases Nat.lt_or_ge k 255 with hk' | hk'
    · rw [lev_real (by omega) (by omega)]
      exact EReal.coe_lt_coe_iff.mpr (zpow_lt_zpow_right₀ (by norm_num : (1 : ℝ) < 2) (by omega))
    · obtain rfl : k = 255 := by omega
      rw [lev_top]; exact EReal.coe_lt_top _

theorem lev_le {j k : ℕ} (h : j ≤ k) (hk : k ≤ 255) : lev (BitVec.ofNat 32 j) ≤ lev (BitVec.ofNat 32 k) := by
  rcases Nat.lt_or_ge j k with h' | h'
  · exact (lev_lt h' hk).le
  · obtain rfl : j = k := by omega
    exact le_rfl

/-- A number that is not negative lies on one rung. -/
theorem exists_rung {t : EReal} (ht : 0 ≤ t) : ∃ K : ℕ, K ≤ 255 ∧ ∀ k : ℕ, k ≤ 255 → (t < lev (BitVec.ofNat 32 k) ↔ K < k) := by
  classical
  refine ⟨Nat.findGreatest (fun k => lev (BitVec.ofNat 32 k) ≤ t) 255, Nat.findGreatest_le _, fun k hk => ⟨fun h => ?_, fun h => ?_⟩⟩
  · by_contra hc
    have h0 : lev (BitVec.ofNat 32 (Nat.findGreatest (fun k => lev (BitVec.ofNat 32 k) ≤ t) 255)) ≤ t :=
      Nat.findGreatest_spec (P := fun k => lev (BitVec.ofNat 32 k) ≤ t) (m := 0) (by omega) (by show lev 0#32 ≤ t; rw [lev_zero]; exact ht)
    exact absurd (lt_of_lt_of_le h (lev_le (not_lt.mp hc) (Nat.findGreatest_le _))) (not_lt.mpr h0)
  · exact not_le.mp (Nat.findGreatest_is_greatest (P := fun k => lev (BitVec.ofNat 32 k) ≤ t) h hk)

/-! ## Folds of signed maxima and minima -/

theorem fold_maxsi {n : ℕ} (f : Fin n → BitVec 32) (b M : BitVec 32) (hb : b.toInt ≤ M.toInt) (hf : ∀ k, (f k).toInt ≤ M.toInt) (k : Fin n) (hk : f k = M) :
    Finset.univ.fold IntOp.maxsi b f = M := by
  have hop : ∀ x y : BitVec 32, (IntOp.maxsi x y).toInt = max x.toInt y.toInt := fun x y => by
    unfold IntOp.maxsi; simp only [BitVec.slt, decide_eq_true_eq]; split <;> omega
  apply BitVec.eq_of_toInt_eq
  rw [← Finset.fold_hom (op' := max) (m := BitVec.toInt) hop]
  refine le_antisymm ((Finset.fold_max_le _).mpr ⟨hb, fun x _ => hf x⟩) ((Finset.le_fold_max _).mpr (.inr ⟨k, Finset.mem_univ _, ?_⟩))
  rw [hk]

theorem fold_minsi {n : ℕ} (f : Fin n → BitVec 32) (b M : BitVec 32) (hb : M.toInt ≤ b.toInt) (hf : ∀ k, M.toInt ≤ (f k).toInt) (k : Fin n) (hk : f k = M) :
    Finset.univ.fold IntOp.minsi b f = M := by
  have hop : ∀ x y : BitVec 32, (IntOp.minsi x y).toInt = min x.toInt y.toInt := fun x y => by
    unfold IntOp.minsi; simp only [BitVec.slt, decide_eq_true_eq]; split <;> omega
  apply BitVec.eq_of_toInt_eq
  rw [← Finset.fold_hom (op' := min) (m := BitVec.toInt) hop]
  refine le_antisymm ((Finset.fold_min_le _).mpr (.inr ⟨k, Finset.mem_univ _, ?_⟩)) ((Finset.le_fold_min _).mpr ⟨hb, fun x _ => hf x⟩)
  rw [hk]

/-! ## The two quantisers -/

/-- The exponent field by the kernel's ladder, -/
def fieldK (t : EReal) : BitVec 32 :=
  Finset.univ.fold IntOp.maxsi 2147483648#32 fun k : Fin 256 => Scalar.select (Ideal.cmp .olt t (lev (BitVec.ofNat 32 k.val))) 0#32 (BitVec.ofNat 32 k.val)
/-- the exponent, -/
def expK (t : EReal) : BitVec 32 := Scalar.select (IntOp.cmpi .eq (fieldK t) 0#32) 0#32 (fieldK t - 126#32)
/-- the scale -/
def scaleK (t : EReal) : EReal := lev (expK t + 127#32)
/-- and its inverse. -/
def invK (t : EReal) : EReal := lev (IntOp.maxsi (127#32 - expK t) 0#32)

/-- `2 ^ e` of a word. -/
def pow2 (e : BitVec 32) : EReal := Ideal.exp2 ((e.toInt : ℝ) : EReal)
/-- The exponent by the reference's ladder, -/
def expR (t : EReal) : BitVec 32 :=
  Scalar.select (Ideal.cmp .olt t (Ideal.ofBits .f32 0x00800000#32)) 0#32
    (Finset.univ.fold IntOp.minsi 2147483647#32 fun k : Fin 254 =>
      Scalar.select (Ideal.cmp .olt t (pow2 (BitVec.ofNat 32 k.val - 126#32))) (BitVec.ofNat 32 k.val - 126#32) 128#32)
/-- a power of two as a float, -/
def powR (e : BitVec 32) : EReal :=
  Scalar.select (IntOp.cmpi .slt e 4294967170#32) 0 (Scalar.select (IntOp.cmpi .sgt e 127#32) (Ideal.ofBits .f32 0x7F800000#32) (pow2 e))
/-- the scale -/
def scaleR (t : EReal) : EReal := Scalar.select (Ideal.cmp .olt t (Ideal.ofBits .f32 0x7F800000#32)) (powR (expR t)) 0
/-- and its inverse. -/
def invR (t : EReal) : EReal := powR (0#32 - expR t)

theorem pow2_lev {e : BitVec 32} {k : ℕ} (h1 : 1 ≤ k) (h2 : k ≤ 254) (he : e.toInt = (k : ℤ) - 127) : pow2 e = lev (BitVec.ofNat 32 k) := by
  rw [lev_real h1 h2, pow2, Ideal.exp2_coe, he]
  congr 1
  exact Real.rpow_intCast 2 _

theorem sel_olt {α : Type} (x y : EReal) (a b : α) : Scalar.select (Ideal.cmp .olt x y) a b = if x < y then a else b := by
  unfold Scalar.select Ideal.cmp
  by_cases h : x < y <;> simp [h]

section Rung

variable {t : EReal} {K : ℕ} (hK : K ≤ 255) (h : ∀ k : ℕ, k ≤ 255 → (t < lev (BitVec.ofNat 32 k) ↔ K < k))
include hK h

theorem fieldK_eq : fieldK t = BitVec.ofNat 32 K := by
  have hint : ∀ k : Fin 256, (BitVec.ofNat 32 k.val).toInt = k.val := by decide +kernel
  have hKi := hint ⟨K, by omega⟩
  refine fold_maxsi _ _ _ ?_ (fun k => ?_) ⟨K, by omega⟩ ?_
  · rw [hKi, show (2147483648#32).toInt = -2147483648 by decide]; simp only; omega
  · rw [sel_olt, hKi]
    split
    · rw [show (0#32).toInt = 0 by decide]; simp only; omega
    · rename_i hc
      rw [h _ (by omega)] at hc
      rw [hint]; simp only; omega
  · rw [sel_olt, if_neg]
    rw [h _ hK]; omega

theorem expR_eq : expR t = if K = 0 then 0#32 else if K ≤ 253 then BitVec.ofNat 32 K - 126#32 else 128#32 := by
  have hint : ∀ k : Fin 254, (BitVec.ofNat 32 k.val - 126#32).toInt = (k.val : ℤ) - 126 := by decide +kernel
  have hp : ∀ k : Fin 254, t < pow2 (BitVec.ofNat 32 k.val - 126#32) ↔ K ≤ k.val := fun k => by
    rw [pow2_lev (k := k.val + 1) (by omega) (by omega) (by rw [hint]; push_cast; ring), h _ (by omega)]; omega
  unfold expR
  rw [sel_olt, show Ideal.ofBits .f32 0x00800000#32 = lev (BitVec.ofNat 32 1) by rfl, ]
  by_cases h0 : K = 0
  · rw [if_pos ((h 1 (by omega)).mpr (by omega)), if_pos h0]
  rw [if_neg (fun hc => h0 (by have := (h 1 (by omega)).mp hc; omega)), if_neg h0]
  have h128 : (128#32).toInt = 128 := by decide
  have hmax : (2147483647#32).toInt = 2147483647 := by decide
  split
  · rename_i h253
    have hKi := hint ⟨K, by omega⟩
    refine fold_minsi _ _ _ (by rw [hKi, hmax]; simp only; omega) (fun k => ?_) ⟨K, by omega⟩ ?_
    · rw [sel_olt, hKi]
      split
      · rename_i hc
        rw [hp] at hc
        rw [hint]; simp only; omega
      · rw [h128]; simp only; omega
    · rw [sel_olt, if_pos ((hp _).mpr le_rfl)]
  · refine fold_minsi _ _ _ (by decide) (fun k => ?_) ⟨0, by omega⟩ ?_
    · rw [sel_olt, if_neg (by rw [hp]; omega)]
    · rw [sel_olt, if_neg (by rw [hp]; simp only; omega)]

end Rung

theorem ofBits_inf : Ideal.ofBits .f32 0x7F800000#32 = ⊤ := by simp [Ideal.ofBits, Ideal.ieee]

/-- A power of two by its word: below the least normal, normal, above the greatest. -/
theorem powR_eq (e : BitVec 32) : powR e = if e.toInt < -126 then 0 else if 127 < e.toInt then ⊤ else pow2 e := by
  unfold powR Scalar.select IntOp.cmpi
  rw [ofBits_inf]
  have h1 : (4294967170#32).toInt = -126 := by decide
  have h2 : (127#32).toInt = 127 := by decide
  simp only [BitVec.slt, h1, h2]
  by_cases ha : e.toInt < -126 <;> by_cases hb : 127 < e.toInt <;> simp [ha, hb]

theorem expK_eq {t : EReal} {K : ℕ} (hK : K ≤ 255) (h : fieldK t = BitVec.ofNat 32 K) : expK t = if K = 0 then 0#32 else BitVec.ofNat 32 K - 126#32 := by
  unfold expK Scalar.select IntOp.cmpi
  rw [h]
  have : ∀ k : Fin 256, (BitVec.ofBool (BitVec.ofNat 32 k.val == 0#32) = 1) ↔ k.val = 0 := by decide +kernel
  simp only [this ⟨K, by omega⟩]

theorem scale_eq {t : EReal} (ht : 0 ≤ t) : scaleK t = scaleR t := by
  obtain ⟨K, hK, h⟩ := exists_rung ht
  unfold scaleK scaleR
  rw [expK_eq hK (fieldK_eq hK h), sel_olt, ofBits_inf, if_congr (show t < ⊤ ↔ K < 255 by rw [← lev_top]; exact h 255 le_rfl) rfl rfl, powR_eq, expR_eq hK h]
  have hint : ∀ k : Fin 254, (BitVec.ofNat 32 k.val - 126#32).toInt = (k.val : ℤ) - 126 := by decide +kernel
  by_cases h0 : K = 0
  · subst h0
    simp only [if_true, if_pos (show 0 < 255 by omega)]
    rw [if_neg (by decide), if_neg (by decide), pow2_lev (k := 127) (by omega) (by omega) (by decide)]
    rfl
  simp only [if_neg h0]
  by_cases h253 : K ≤ 253
  · have hKi := hint ⟨K, by omega⟩
    simp only at hKi
    simp only [if_pos h253, if_pos (show K < 255 by omega), hKi]
    rw [if_neg (by omega), if_neg (by omega), pow2_lev (k := K + 1) (by omega) (by omega) (by rw [hKi]; push_cast; ring)]
    congr 1
    apply BitVec.eq_of_toNat_eq
    have := (by decide +kernel : ∀ k : Fin 254, (BitVec.ofNat 32 k.val - 126#32 + 127#32).toNat = (BitVec.ofNat 32 (k.val + 1)).toNat) ⟨K, by omega⟩
    exact this
  simp only [if_neg h253]
  rcases (show K = 254 ∨ K = 255 by omega) with rfl | rfl
  · rw [if_pos (by omega), if_neg (by decide), if_pos (by decide), ← lev_top]; rfl
  · rw [if_neg (by omega), ← lev_over]; rfl

theorem inv_eq {t : EReal} (ht : 0 ≤ t) : invK t = invR t := by
  obtain ⟨K, hK, h⟩ := exists_rung ht
  unfold invK invR
  rw [expK_eq hK (fieldK_eq hK h), powR_eq, expR_eq hK h]
  by_cases h0 : K = 0
  · subst h0
    simp only [if_true]
    rw [if_neg (by decide), if_neg (by decide), pow2_lev (k := 127) (by omega) (by omega) (by decide)]
    rfl
  simp only [if_neg h0]
  have hint : ∀ k : Fin 254, (0#32 - (BitVec.ofNat 32 k.val - 126#32)).toInt = 126 - (k.val : ℤ) := by decide +kernel
  by_cases h253 : K ≤ 253
  · have hKi := hint ⟨K, by omega⟩
    simp only at hKi
    have hm := (by decide +kernel : ∀ k : Fin 254, IntOp.maxsi (127#32 - (BitVec.ofNat 32 k.val - 126#32)) 0#32 = BitVec.ofNat 32 (253 - k.val)) ⟨K, by omega⟩
    simp only at hm
    simp only [if_pos h253, hKi, hm]
    by_cases h' : K = 253
    · subst h'
      rw [if_pos (by omega)]; exact lev_zero
    · rw [if_neg (by omega), if_neg (by omega), pow2_lev (k := 253 - K) (by omega) (by omega) (by rw [hKi]; omega)]
  simp only [if_neg h253]
  rcases (show K = 254 ∨ K = 255 by omega) with rfl | rfl
  · rw [if_pos (by decide)]; exact lev_zero
  · rw [if_pos (by decide)]; exact lev_zero

end Cert.Quant

end
-- ==== Proof.Value.Spec.lean ====
/- The three results as functions of the arguments over the extended reals, entry by entry.

   A token is numbered in its sequence by its block of 128 (`n`) and its place there (`r`), and among all the tokens by
   one number `s`, which lies in sequence `s / 16384`, block `s / 128 % 128`, place `s % 128`. -/
module

public import proofs.«01_k».proof.Proof.Value.Scalar
public import Idealize.ShloMosaic.Lib.Pointwise.Index

@[expose] public section

noncomputable section

namespace Cert.Quant

open Idealize.ShloMosaic

variable (a0 : (⟨3, ![5, 16384, 3072]⟩ : Shape).Idx → EReal) (a1 : (⟨3, ![5, 16384, 24]⟩ : Shape).Idx → EReal)
  (a2 : (⟨3, ![5, 16384, 1024]⟩ : Shape).Idx → EReal) (a3 : (⟨3, ![5, 128, 1024]⟩ : Shape).Idx → EReal)
  (a4 : (⟨2, ![3072, 1024]⟩ : Shape).Idx → EReal)

/-- A token of its sequence. -/
abbrev tokOf (n r : Fin 128) : Fin 16384 := ⟨n.val * 128 + r.val, by omega⟩
/-- The group of 128 columns of a column. -/
abbrev grpOf (k : Fin 3072) : Fin 24 := ⟨k.val / 128, by omega⟩

/-- `x` dequantised, -/
def xS (B : Fin 5) (n r : Fin 128) (k : Fin 3072) : EReal := a0 (ix3 B (tokOf n r) k) * a1 (ix3 B (tokOf n r) (grpOf k))
/-- the largest magnitude of a block of 128 tokens in one column, over 448, -/
def tS (B : Fin 5) (n : Fin 128) (k : Fin 3072) : EReal :=
  (Finset.univ.fold max ⊥ fun r : Fin 128 => max (xS a0 a1 B n r k) (-xS a0 a1 B n r k)) * Ideal.ofBits .f32 0x3B124925#32
/-- the scale, -/
def scaleS (B : Fin 5) (n : Fin 128) (k : Fin 3072) : EReal := scaleR (tS a0 a1 B n k)
/-- the code, -/
def codeS (B : Fin 5) (n r : Fin 128) (k : Fin 3072) : EReal :=
  min (Ideal.ofBits .f32 0x43E00000#32) (max (Ideal.ofBits .f32 0xC3E00000#32) (xS a0 a1 B n r k * invR (tS a0 a1 B n k)))
/-- the requantised `x`, -/
def wS (B : Fin 5) (n r : Fin 128) (k : Fin 3072) : EReal := codeS a0 a1 B n r k * scaleS a0 a1 B n k
/-- and `dy` dequantised. -/
def dyS (B : Fin 5) (n r : Fin 128) (j : Fin 1024) : EReal := a2 (ix3 B (tokOf n r) j) * a3 (ix3 B n j)

/-- The sequence, the block and the place of token `s` of all. -/
abbrev seqOf (s : ℕ) : Fin 5 := ⟨s / 16384 % 5, Nat.mod_lt _ (by decide)⟩
abbrev blkOf (s : ℕ) : Fin 128 := ⟨s / 128 % 128, Nat.mod_lt _ (by decide)⟩
abbrev plcOf (s : ℕ) : Fin 128 := ⟨s % 128, Nat.mod_lt _ (by decide)⟩

/-- Token `s`'s share of an entry of the gradient. -/
def termS (i : Fin 3072) (j : Fin 1024) (s : ℕ) : EReal := wS a0 a1 (seqOf s) (blkOf s) (plcOf s) i * dyS a2 a3 (seqOf s) (blkOf s) (plcOf s) j

/-- The gradient: the one given and the sum over all the tokens. -/
def gradS : (⟨2, ![3072, 1024]⟩ : Shape).Idx → EReal := fun y => a4 y + ∑ s ∈ Finset.range 81920, termS a0 a1 a2 a3 (y 0) (y 1) s
/-- The codes of all the tokens, -/
def codesS : (⟨2, ![81920, 3072]⟩ : Shape).Idx → EReal := fun y => codeS a0 a1 (seqOf (y 0).val) (blkOf (y 0).val) (plcOf (y 0).val) (y 1)
/-- and the scales. -/
def scalesS : (⟨3, ![5, 128, 3072]⟩ : Shape).Idx → EReal := fun y => scaleS a0 a1 (y 0) (y 1) (y 2)

/-! ## The block's maximum is not negative -/

theorem ofBits_rec448 : 0 ≤ Ideal.ofBits .f32 0x3B124925#32 := by
  unfold Ideal.ofBits Ideal.ieee
  simp only [show ((0x3B124925#32 : BitVec 32).extractLsb' (8 + 23) 1 == 1#1) = false by decide,
    show ((0x3B124925#32 : BitVec 32).extractLsb' 23 8).toNat = 118 by decide]
  rw [if_neg (by decide), if_neg (by decide)]
  refine EReal.coe_nonneg.mpr ?_
  simp only [Bool.false_eq_true, if_false, one_mul]
  positivity

theorem tS_nonneg (B : Fin 5) (n : Fin 128) (k : Fin 3072) : 0 ≤ tS a0 a1 B n k := by
  refine EReal.mul_nonneg ((Finset.le_fold_max _).mpr (.inr ⟨⟨0, by decide⟩, Finset.mem_univ _, ?_⟩)) ofBits_rec448
  rcases le_total 0 (xS a0 a1 B n ⟨0, by decide⟩ k) with h | h
  · exact le_max_of_le_left h
  · exact le_max_of_le_right (EReal.neg_nonneg.mpr h)

end Cert.Quant

end
-- ==== Proof.Value.Tile.lean ====
/- The kernel's tiles, entry by entry, from what the blocks of a point hold. -/
module

public import proofs.«01_k».proof.Proof.KernelIdeal.State
public import proofs.«01_k».proof.Proof.Value.Spec
public import Idealize.ShloMosaic.Lib.Pointwise

@[expose] public section

set_option maxRecDepth 16384

noncomputable section

namespace Cert.KernelIdeal.Read

open Cert.KernelIdeal Cert.KernelIdeal.Gen Cert.KernelIdeal.Steps Cert.Quant
open Idealize.ShloMosaic

/-! ## The operations -/

theorem emb2 {s₀ s₁ z₀ z₁ o₀ o₁ : ℕ} (h : ∀ a, (![o₀, o₁] : Fin 2 → ℕ) a + (![z₀, z₁] : Fin 2 → ℕ) a ≤ (⟨2, ![s₀, s₁]⟩ : Shape).size a) (a : Fin z₀) (l : Fin z₁)
    (h₀ : o₀ + a.val < s₀) (h₁ : o₁ + l.val < s₁) :
    (Rect.unit (s := ⟨2, ![s₀, s₁]⟩) ![o₀, o₁] ![z₀, z₁] h).emb (ix2 a l) = ix2 ⟨o₀ + a.val, h₀⟩ ⟨o₁ + l.val, h₁⟩ := by
  funext q
  apply Fin.ext
  match q with
  | ⟨0, _⟩ => show o₀ + 1 * a.val = o₀ + a.val; omega
  | ⟨1, _⟩ => show o₁ + 1 * l.val = o₁ + l.val; omega

theorem emb3 {s₀ s₁ s₂ z₀ z₁ z₂ o₀ o₁ o₂ : ℕ} (h : ∀ a, (![o₀, o₁, o₂] : Fin 3 → ℕ) a + (![z₀, z₁, z₂] : Fin 3 → ℕ) a ≤ (⟨3, ![s₀, s₁, s₂]⟩ : Shape).size a)
    (a : Fin z₀) (b : Fin z₁) (l : Fin z₂) (h₀ : o₀ + a.val < s₀) (h₁ : o₁ + b.val < s₁) (h₂ : o₂ + l.val < s₂) :
    (Rect.unit (s := ⟨3, ![s₀, s₁, s₂]⟩) ![o₀, o₁, o₂] ![z₀, z₁, z₂] h).emb (ix3 a b l) = ix3 ⟨o₀ + a.val, h₀⟩ ⟨o₁ + b.val, h₁⟩ ⟨o₂ + l.val, h₂⟩ := by
  funext q
  apply Fin.ext
  match q with
  | ⟨0, _⟩ => show o₀ + 1 * a.val = o₀ + a.val; omega
  | ⟨1, _⟩ => show o₁ + 1 * b.val = o₁ + b.val; omega
  | ⟨2, _⟩ => show o₂ + 1 * l.val = o₂ + l.val; omega

theorem top_at (x : FVec Ideal S128x128 .bf16) (l : Fin 128) :
    topVal x (ix2 0 l) = (Finset.univ.fold max ⊥ fun r : Fin 128 => max (x (ix2 r l)) (-x (ix2 r l))) * Ideal.ofBits .f32 0x3B124925#32 := by
  rw [← show Ideal.ofBits .bf16 0xFF80#16 = ⊥ by simp [Ideal.ofBits, Ideal.ieee]]
  pointwise [topVal]
  rfl

theorem field_at (t : FVec Ideal S1x128 .f32) (l : Fin 128) : fieldVal t (ix2 0 l) = fieldK (t (ix2 0 l)) := by
  unfold fieldK
  simp only [sel_olt]
  pointwise [fieldVal]
  rfl

theorem exp_at (t : FVec Ideal S1x128 .f32) (l : Fin 128) : expVal (fieldVal t) (ix2 0 l) = expK (t (ix2 0 l)) := by
  unfold expK
  rw [← field_at]
  rfl

theorem scale_at (t : FVec Ideal S1x128 .f32) (l : Fin 128) : scaleVal (F := Ideal) (expVal (fieldVal t)) (ix2 0 l) = scaleK (t (ix2 0 l)) := by
  unfold scaleK
  rw [← exp_at]
  rfl

theorem inv_at (t : FVec Ideal S1x128 .f32) (l : Fin 128) : invVal (F := Ideal) (expVal (fieldVal t)) (ix2 0 l) = invK (t (ix2 0 l)) := by
  unfold invK
  rw [← exp_at]
  rfl

theorem code_at (x : FVec Ideal S128x128 .bf16) (v : FVec Ideal S1x128 .f32) (a l : Fin 128) :
    codeVal (F := Ideal) x v (ix2 a l) = min (Ideal.ofBits .f32 0x43E00000#32) (max (Ideal.ofBits .f32 0xC3E00000#32) (x (ix2 a l) * v (ix2 0 l))) := by
  pointwise [codeVal]

theorem back_at (x : FVec Ideal S128x128 .fp8e4m3) (v : FVec Ideal S1x128 .f32) (a l : Fin 128) :
    backVal (F := Ideal) x v (ix2 a l) = x (ix2 l a) * v (ix2 0 a) := by
  pointwise [backVal]

theorem dotVal_at (v : Vec Ideal S256x1024 .f32) (x : FVec Ideal S256x512 .bf16) (y : FVec Ideal S512x1024 .bf16) (a : Fin 256) (l : Fin 1024) :
    dotVal (F := Ideal) v x y (ix2 a l) = v (ix2 a l) + ∑ s, x (ix2 a s) * y (ix2 s l) := by
  pointwise [dotVal]

theorem deq_at (v : Vec Ideal S128x1024 .fp8e5m2) (w : Vec Ideal S1x1x1024 .f32) (a : Fin 128) (l : Fin 1024) :
    deqVal v w (ix2 a l) = v (ix2 a l) * w (ix3 0 0 l) := by
  pointwise [deqVal]

theorem xVal_at (g : Fin 24) (w : Vec Ideal S1x128x24 .f32) (v : Vec Ideal S128x128 .fp8e4m3) (a l : Fin 128) :
    xVal g (rowVal w) v (ix2 a l) = v (ix2 a l) * w (ix3 0 a g) := by
  pointwise [xVal, rowVal]

/-! ## The tiles -/

variable (a0 : (⟨3, ![5, 16384, 3072]⟩ : Shape).Idx → EReal) (a1 : (⟨3, ![5, 16384, 24]⟩ : Shape).Idx → EReal)
  (a2 : (⟨3, ![5, 16384, 1024]⟩ : Shape).Idx → EReal) (a3 : (⟨3, ![5, 128, 1024]⟩ : Shape).Idx → EReal)

/-- Point `t`'s blocks are those of the arguments: eight blocks of 128 tokens of sequence `t / 16`. -/
structure Holds (I : In Ideal) (t : Fin 80) : Prop where
  codes : ∀ (a : Fin 1024) (k : Fin 3072), I.codes (ix2 a k) = a0 (ix3 ⟨t.val / 16, by omega⟩ ⟨t.val % 16 * 1024 + a.val, by omega⟩ k)
  rs : ∀ (a : Fin 1024) (g : Fin 24), I.rs (ix3 0 a g) = a1 (ix3 ⟨t.val / 16, by omega⟩ ⟨t.val % 16 * 1024 + a.val, by omega⟩ g)
  dy : ∀ (a : Fin 1024) (j : Fin 1024), I.dy (ix2 a j) = a2 (ix3 ⟨t.val / 16, by omega⟩ ⟨t.val % 16 * 1024 + a.val, by omega⟩ j)
  dys : ∀ (n : Fin 8) (j : Fin 1024), I.dys (ix3 0 n j) = a3 (ix3 ⟨t.val / 16, by omega⟩ ⟨t.val % 16 * 8 + n.val, by omega⟩ j)

theorem half_lt (p : Bool) (b : Fin 4) : half p + b.val < 8 := by rcases half_le p with h | h <;> omega

/-- The block of tokens, of its sequence, that block `b` of half `p` of point `t` is. -/
abbrev nOf (t : Fin 80) (p : Bool) (b : Fin 4) : Fin 128 := ⟨t.val % 16 * 8 + (half p + b.val), by have := half_lt p b; omega⟩
abbrev sqOf (t : Fin 80) : Fin 5 := ⟨t.val / 16, by omega⟩
/-- The column of a place in a group. -/
abbrev colOf (g : Fin 24) (l : Fin 128) : Fin 3072 := ⟨g.val * 128 + l.val, by omega⟩

variable {a0 a1 a2 a3} {I : In Ideal} {t : Fin 80} (H : Holds a0 a1 a2 a3 I t) (p : Bool) (b : Fin 4) (g : Fin 24)

include H

theorem dyOf_at' (a : Fin 128) (j : Fin 1024) : dyOf I p b (ix2 a j) = dyS a2 a3 (sqOf t) (nOf t p b) a j := by
  have hb := half_lt p b
  refine (deq_at _ _ a j).trans ?_
  unfold VecWindow.window dyS
  refine congrArg₂ (· * ·) ((congrArg I.dy (emb2 _ a j (by omega) (by omega))).trans ((H.dy _ _).trans (congrArg a2 ?_)))
    ((congrArg I.dys (emb3 _ 0 0 j (by decide) (by show _ + 0 < 8; omega) (by omega))).trans ?_)
  · exact congrArg₂ (fun x y => ix3 (sqOf t) x y) (Fin.ext (by show _ + ((half p + b.val) * 128 + a.val) = (t.val % 16 * 8 + (half p + b.val)) * 128 + a.val; omega)) (Fin.ext (by show 0 + j.val = _; omega))
  · refine Eq.trans ?_ (H.dys ⟨half p + b.val, hb⟩ j)
    refine congrArg I.dys ?_
    exact congrArg₂ (fun x y => ix3 (0 : Fin 1) x y) (Fin.ext (by show half p + b.val + 0 = half p + b.val; omega)) (Fin.ext (by show 0 + j.val = _; omega))

theorem xOf_at (a l : Fin 128) : xOf I p b g (ix2 a l) = xS a0 a1 (sqOf t) (nOf t p b) a (colOf g l) := by
  have hb := half_lt p b
  refine (xVal_at g _ _ a l).trans ?_
  unfold VecWindow.window xS
  refine congrArg₂ (· * ·) ((congrArg I.codes (emb2 _ a l (by omega) (by omega))).trans ((H.codes _ _).trans (congrArg a0 ?_)))
    ((congrArg I.rs (emb3 _ 0 a g (by decide) (by omega) (by omega))).trans ?_)
  · exact congrArg₂ (fun x y => ix3 (sqOf t) x y) (Fin.ext (by show _ + ((half p + b.val) * 128 + a.val) = (t.val % 16 * 8 + (half p + b.val)) * 128 + a.val; omega)) rfl
  · refine Eq.trans ?_ ((H.rs ⟨(half p + b.val) * 128 + a.val, by omega⟩ g).trans (congrArg a1 ?_))
    · refine congrArg I.rs ?_
      exact congrArg₂ (fun x y => ix3 (0 : Fin 1) x y) rfl (Fin.ext (by show 0 + g.val = _; omega))
    · exact congrArg₂ (fun x y => ix3 (sqOf t) x y) (Fin.ext (by show _ + ((half p + b.val) * 128 + a.val) = (t.val % 16 * 8 + (half p + b.val)) * 128 + a.val; omega))
        (Fin.ext (by show g.val = (g.val * 128 + l.val) / 128; omega))

theorem tOf_at (l : Fin 128) : topVal (xOf I p b g) (ix2 0 l) = tS a0 a1 (sqOf t) (nOf t p b) (colOf g l) := by
  rw [top_at]
  unfold tS
  refine congrArg (· * Ideal.ofBits .f32 0x3B124925#32) (congrArg (fun f => Finset.univ.fold max ⊥ f) (funext fun r => ?_))
  rw [xOf_at H]

theorem sOf_at' (l : Fin 128) : sOf I p b g (ix2 0 l) = scaleS a0 a1 (sqOf t) (nOf t p b) (colOf g l) := by
  refine (scale_at _ l).trans ?_
  rw [tOf_at H, scale_eq (tS_nonneg a0 a1 _ _ _)]
  rfl

theorem cOf_at' (a l : Fin 128) : cOf I p b g (ix2 a l) = codeS a0 a1 (sqOf t) (nOf t p b) a (colOf g l) := by
  refine (code_at _ _ a l).trans ?_
  rw [inv_at, tOf_at H, inv_eq (tS_nonneg a0 a1 _ _ _), xOf_at H]
  rfl

theorem wOf_at' (a l : Fin 128) : wOf I p b g (ix2 a l) = wS a0 a1 (sqOf t) (nOf t p b) l (colOf g a) := by
  refine (back_at _ _ a l).trans ?_
  rw [cOf_at' H, sOf_at' H]
  rfl

/-! ## The buffers -/

/-- Token `x` of half `p` of point `t`, of all the tokens. -/
abbrev tok (t : Fin 80) (p : Bool) (x : ℕ) : ℕ := t.val * 1024 + half p * 128 + x

theorem term_at (i : Fin 3072) (j : Fin 1024) (x : Fin 512) : XX I p (ix2 i x) * YY I p (ix2 x j) = termS a0 a1 a2 a3 i j (tok t p x.val) := by
  have hx : wOf I p (b512 x) (gOf i) (ix2 (l128 i) (l128 x)) * dyOf I p (b512 x) (ix2 (l128 x) j) = _ :=
    congrArg₂ (· * ·) (wOf_at' H p (b512 x) (gOf i) (l128 i) (l128 x)) (dyOf_at' H p (b512 x) (l128 x) j)
  refine hx.trans ?_
  have e1 : sqOf t = seqOf (tok t p x.val) := Fin.ext (by
    show t.val / 16 = (t.val * 1024 + half p * 128 + x.val) / 16384 % 5
    rcases half_le p with h | h <;> rw [h] <;> omega)
  have e2 : nOf t p (b512 x) = blkOf (tok t p x.val) := Fin.ext (by
    show t.val % 16 * 8 + (half p + x.val / 128) = (t.val * 1024 + half p * 128 + x.val) / 128 % 128
    rcases half_le p with h | h <;> rw [h] <;> omega)
  have e3 : l128 x = plcOf (tok t p x.val) := Fin.ext (by
    show x.val % 128 = (t.val * 1024 + half p * 128 + x.val) % 128
    omega)
  have e4 : colOf (gOf i) (l128 i) = i := Fin.ext (by show i.val / 128 * 128 + i.val % 128 = i.val; omega)
  rw [e1, e2, e3, e4]
  rfl

/-- A half's product adds its tokens' shares. -/
theorem dotAll_at (O : S3072x1024.Idx → EReal) (i : Fin 3072) (j : Fin 1024) :
    dotAll (F := Ideal) O (XX I p) (YY I p) (ix2 i j) = O (ix2 i j) + ∑ x ∈ Finset.range 512, termS a0 a1 a2 a3 i j (tok t p x) := by
  refine (dotVal_at _ _ _ _ _).trans ?_
  unfold VecWindow.window
  have ei : i.val / 256 * 256 + i.val % 256 = i.val := by omega
  rw [Finset.sum_range]
  refine congrArg₂ (· + ·) (congrArg O ?_) (Finset.sum_congr rfl fun x _ => ?_)
  · refine (emb2 _ _ _ (by show i.val / 256 * 256 + i.val % 256 < 3072; omega) (by show 0 + j.val < 1024; omega)).trans ?_
    exact congrArg₂ ix2 (Fin.ext ei) (Fin.ext (by show 0 + j.val = _; omega))
  · refine Eq.trans (congrArg₂ (· * ·) (congrArg (XX I p) ?_) (congrArg (YY I p) ?_)) (term_at H p i j x)
    · refine (emb2 _ _ _ (by show i.val / 256 * 256 + i.val % 256 < 3072; omega) (by show 0 + x.val < 512; omega)).trans ?_
      exact congrArg₂ ix2 (Fin.ext ei) (Fin.ext (by show 0 + x.val = _; omega))
    · refine (emb2 _ _ _ (by show 0 + x.val < 512; omega) (by show 0 + j.val < 1024; omega)).trans ?_
      exact congrArg₂ ix2 (Fin.ext (by show 0 + x.val = _; omega)) (Fin.ext (by show 0 + j.val = _; omega))

/-- The codes a point writes, -/
theorem XT_at (a : Fin 1024) (k : Fin 3072) :
    XT I (ix2 a k) = codeS a0 a1 (seqOf (t.val * 1024 + a.val)) (blkOf (t.val * 1024 + a.val)) (plcOf (t.val * 1024 + a.val)) k := by
  have h : cOf I (hOf a) (bOf a) (gOf k) (ix2 (l128 a) (l128 k)) = _ := cOf_at' H (hOf a) (bOf a) (gOf k) (l128 a) (l128 k)
  refine h.trans ?_
  have e1 : sqOf t = seqOf (t.val * 1024 + a.val) := Fin.ext (by show t.val / 16 = (t.val * 1024 + a.val) / 16384 % 5; omega)
  have e2 : nOf t (hOf a) (bOf a) = blkOf (t.val * 1024 + a.val) := Fin.ext (by
    show t.val % 16 * 8 + (half (hOf a) + a.val / 128 % 4) = (t.val * 1024 + a.val) / 128 % 128
    rcases half_val (hOf a) with ⟨hh, hp⟩ | ⟨hh, hp⟩
    · have := of_decide_eq_false hp; omega
    · have := of_decide_eq_true hp; omega)
  have e3 : l128 a = plcOf (t.val * 1024 + a.val) := Fin.ext (by show a.val % 128 = (t.val * 1024 + a.val) % 128; omega)
  have e4 : colOf (gOf k) (l128 k) = k := Fin.ext (by show k.val / 128 * 128 + k.val % 128 = k.val; omega)
  rw [e1, e2, e3, e4]

/-- and the scales. -/
theorem XS_at (n : Fin 8) (k : Fin 3072) : XS I (ix3 0 n k) = scaleS a0 a1 (sqOf t) ⟨t.val % 16 * 8 + n.val, by omega⟩ k := by
  have hc : ∀ v : FVec Ideal S1x128 .f32, shapeCast S1x1x128 v shapeCasts_S1x128_S1x1x128 (ix3 0 0 (l128 k)) = v (ix2 0 (l128 k)) := fun v => by pointwise
  have h : shapeCast S1x1x128 (sOf I (decide (4 ≤ n.val)) ⟨n.val % 4, Nat.mod_lt _ (by decide)⟩ (gOf k)) shapeCasts_S1x128_S1x1x128 (ix3 0 0 (l128 k)) = _ :=
    (hc _).trans (sOf_at' H (decide (4 ≤ n.val)) ⟨n.val % 4, Nat.mod_lt _ (by decide)⟩ (gOf k) (l128 k))
  refine h.trans ?_
  have e2 : nOf t (decide (4 ≤ n.val)) ⟨n.val % 4, Nat.mod_lt _ (by decide)⟩ = ⟨t.val % 16 * 8 + n.val, by omega⟩ := Fin.ext (by
    show t.val % 16 * 8 + (half (decide (4 ≤ n.val)) + n.val % 4) = t.val % 16 * 8 + n.val
    rcases half_val (decide (4 ≤ n.val)) with ⟨hh, hp⟩ | ⟨hh, hp⟩
    · have := of_decide_eq_false hp; omega
    · have := of_decide_eq_true hp; omega)
  have e4 : colOf (gOf k) (l128 k) = k := Fin.ext (by show k.val / 128 * 128 + k.val % 128 = k.val; omega)
  rw [e2, e4]

end Cert.KernelIdeal.Read

end
-- ==== Proof.Value.Blocks.lean ====
/- The kernel's staged blocks hold the arguments' blocks of the point. -/
module

public import proofs.«01_k».proof.Proof.KernelIdeal.Frame
public import proofs.«01_k».proof.Proof.Value.Tile
public import Idealize.ShloMosaic.Lib.Pipeline.FrameTail

@[expose] public section

set_option maxRecDepth 16384

noncomputable section

namespace Cert.KernelIdeal.Read

open Cert.KernelIdeal Cert.KernelIdeal.Gen Cert.KernelIdeal.Steps Cert.Quant
open Idealize.ShloMosaic Idealize.ShloMosaic.TcCoe

variable (m : (ℓ : Loc nD τ sig) → Buf (Elt Ideal) ℓ) (c : Dev nD)

/-- The arguments. -/
abbrev A0 : S5x16384x3072.Idx → EReal := m ((c : Thread nD τ).loc main_arg0)
abbrev A1 : S5x16384x24.Idx → EReal := m ((c : Thread nD τ).loc main_arg1)
abbrev A2 : S5x16384x1024.Idx → EReal := m ((c : Thread nD τ).loc main_arg2)
abbrev A3 : S5x128x1024.Idx → EReal := m ((c : Thread nD τ).loc main_arg3)
abbrev A4 : S3072x1024.Idx → EReal := m ((c : Thread nD τ).loc main_arg4)

/-! ## The two arrays the program lays out in one row of tokens -/

theorem V_v0 : (V m c main_v0 : S81920x3072.Idx → EReal) = shapeCast S81920x3072 (A0 m c) shapeCasts_S5x16384x3072_S81920x3072 := by
  show StableHlo.after hostOps0 (fun b => m (c, b)) (Proc.devRef .tc main_v0) = _
  simp only [hostOps0, StableHlo.after_cons, StableHlo.after_nil]
  rw [StableHlo.reshape_result_ne]; rotate_left; decide
  rw [StableHlo.reshape_result]
  rfl

theorem V_v1 : (V m c main_v1 : S81920x1024.Idx → EReal) = shapeCast S81920x1024 (A2 m c) shapeCasts_S5x16384x1024_S81920x1024 := by
  show StableHlo.after hostOps0 (fun b => m (c, b)) (Proc.devRef .tc main_v1) = _
  simp only [hostOps0, StableHlo.after_cons, StableHlo.after_nil]
  rw [StableHlo.reshape_result]
  rw [StableHlo.reshape_result_ne]; rotate_left; decide
  rfl

theorem row_at (v : S5x16384x3072.Idx → EReal) (s : Fin 81920) (k : Fin 3072) :
    shapeCast S81920x3072 v shapeCasts_S5x16384x3072_S81920x3072 (ix2 s k) = v (ix3 ⟨s.val / 16384, by omega⟩ ⟨s.val % 16384, Nat.mod_lt _ (by decide)⟩ k) := by
  pointwise
theorem row_at' (v : S5x16384x1024.Idx → EReal) (s : Fin 81920) (k : Fin 1024) :
    shapeCast S81920x1024 v shapeCasts_S5x16384x1024_S81920x1024 (ix2 s k) = v (ix3 ⟨s.val / 16384, by omega⟩ ⟨s.val % 16384, Nat.mod_lt _ (by decide)⟩ k) := by
  pointwise

/-! ## Where the blocks lie -/

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 3) = t.val / 16 ∧ win0_1.index t (1 : Fin 3) = t.val % 16 ∧ win0_1.index t (2 : Fin 3) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)
theorem index_3 : ∀ t : Fin cfg0.N, win0_3.index t (0 : Fin 3) = t.val / 16 ∧ win0_3.index t (1 : Fin 3) = t.val % 16 ∧ win0_3.index t (2 : Fin 3) = 0 := (by decide +kernel : ∀ t : Fin grid0.N, _)
theorem index_4 : ∀ t : Fin cfg0.N, win0_4.index t (0 : Fin 2) = 0 ∧ win0_4.index t (1 : Fin 2) = 0 := (by decide +kernel : ∀ t : Fin grid0.N, _)
theorem index_5 : ∀ t : Fin cfg0.N, win0_5.index t (0 : Fin 2) = t.val ∧ win0_5.index t (1 : Fin 2) = 0 := (by decide +kernel : ∀ t : Fin grid0.N, _)
theorem index_6 : ∀ t : Fin cfg0.N, win0_6.index t (0 : Fin 3) = t.val / 16 ∧ win0_6.index t (1 : Fin 3) = t.val % 16 ∧ win0_6.index t (2 : Fin 3) = 0 := (by decide +kernel : ∀ t : Fin grid0.N, _)

/-- A point, by its number. -/
abbrev p80 (t : Fin cfg0.N) : Fin 80 := ⟨t.val, Nat.lt_of_lt_of_eq t.isLt N_0⟩

theorem at_0 (t : Fin cfg0.N) (a : Fin 1024) (k : Fin 3072) :
    ((cfg0.win 0).blk t).view.emb (ix2 a k) = (ix2 ⟨(p80 t).val * 1024 + a.val, by have := (p80 t).isLt; omega⟩ k : S81920x3072.Idx) := by
  obtain ⟨e0, e1⟩ := index_0 t
  funext q; apply Fin.ext
  match q with
  | ⟨0, _⟩ => show win0_0.index t (0 : Fin 2) * 1024 + 1 * a.val = t.val * 1024 + a.val; omega
  | ⟨1, _⟩ => show win0_0.index t (1 : Fin 2) * 3072 + 1 * k.val = k.val; omega

theorem at_1 (t : Fin cfg0.N) (a : Fin 1024) (g : Fin 24) :
    ((cfg0.win 1).blk t).view.emb (ix3 0 a g) = (ix3 ⟨(p80 t).val / 16, by have := (p80 t).isLt; omega⟩ ⟨(p80 t).val % 16 * 1024 + a.val, by omega⟩ g : S5x16384x24.Idx) := by
  obtain ⟨e0, e1, e2⟩ := index_1 t
  funext q; apply Fin.ext
  match q with
  | ⟨0, _⟩ => show win0_1.index t (0 : Fin 3) * 1 + 1 * 0 = t.val / 16; omega
  | ⟨1, _⟩ => show win0_1.index t (1 : Fin 3) * 1024 + 1 * a.val = t.val % 16 * 1024 + a.val; omega
  | ⟨2, _⟩ => show win0_1.index t (2 : Fin 3) * 24 + 1 * g.val = g.val; omega

theorem at_2 (t : Fin cfg0.N) (a : Fin 1024) (k : Fin 1024) :
    ((cfg0.win 2).blk t).view.emb (ix2 a k) = (ix2 ⟨(p80 t).val * 1024 + a.val, by have := (p80 t).isLt; omega⟩ k : S81920x1024.Idx) := by
  obtain ⟨e0, e1⟩ := index_2 t
  funext q; apply Fin.ext
  match q with
  | ⟨0, _⟩ => show win0_2.index t (0 : Fin 2) * 1024 + 1 * a.val = t.val * 1024 + a.val; omega
  | ⟨1, _⟩ => show win0_2.index t (1 : Fin 2) * 1024 + 1 * k.val = k.val; omega

theorem at_3 (t : Fin cfg0.N) (n : Fin 8) (j : Fin 1024) :
    ((cfg0.win 3).blk t).view.emb (ix3 0 n j) = (ix3 ⟨(p80 t).val / 16, by have := (p80 t).isLt; omega⟩ ⟨(p80 t).val % 16 * 8 + n.val, by omega⟩ j : S5x128x1024.Idx) := by
  obtain ⟨e0, e1, e2⟩ := index_3 t
  funext q; apply Fin.ext
  match q with
  | ⟨0, _⟩ => show win0_3.index t (0 : Fin 3) * 1 + 1 * 0 = t.val / 16; omega
  | ⟨1, _⟩ => show win0_3.index t (1 : Fin 3) * 8 + 1 * n.val = t.val % 16 * 8 + n.val; omega
  | ⟨2, _⟩ => show win0_3.index t (2 : Fin 3) * 1024 + 1 * j.val = j.val; omega

theorem at_4 (t : Fin cfg0.N) (y : S3072x1024.Idx) : ((cfg0.win 4).blk t).view.emb y = y := by
  obtain ⟨e0, e1⟩ := index_4 t
  funext q; apply Fin.ext
  match q with
  | ⟨0, _⟩ => show win0_4.index t (0 : Fin 2) * 3072 + 1 * (y 0).val = (y 0).val; omega
  | ⟨1, _⟩ => show win0_4.index t (1 : Fin 2) * 1024 + 1 * (y 1).val = (y 1).val; omega

theorem at_5 (t : Fin cfg0.N) (a : Fin 1024) (k : Fin 3072) :
    ((cfg0.win 5).blk t).view.emb (ix2 a k) = (ix2 ⟨(p80 t).val * 1024 + a.val, by have := (p80 t).isLt; omega⟩ k : S81920x3072.Idx) := by
  obtain ⟨e0, e1⟩ := index_5 t
  funext q; apply Fin.ext
  match q with
  | ⟨0, _⟩ => show win0_5.index t (0 : Fin 2) * 1024 + 1 * a.val = t.val * 1024 + a.val; omega
  | ⟨1, _⟩ => show win0_5.index t (1 : Fin 2) * 3072 + 1 * k.val = k.val; omega

theorem at_6 (t : Fin cfg0.N) (n : Fin 8) (k : Fin 3072) :
    ((cfg0.win 6).blk t).view.emb (ix3 0 n k) = (ix3 ⟨(p80 t).val / 16, by have := (p80 t).isLt; omega⟩ ⟨(p80 t).val % 16 * 8 + n.val, by omega⟩ k : S5x128x3072.Idx) := by
  obtain ⟨e0, e1, e2⟩ := index_6 t
  funext q; apply Fin.ext
  match q with
  | ⟨0, _⟩ => show win0_6.index t (0 : Fin 3) * 1 + 1 * 0 = t.val / 16; omega
  | ⟨1, _⟩ => show win0_6.index t (1 : Fin 3) * 8 + 1 * n.val = t.val % 16 * 8 + n.val; omega
  | ⟨2, _⟩ => show win0_6.index t (2 : Fin 3) * 3072 + 1 * k.val = k.val; omega

/-! ## What a point is given -/

theorem holds (t : Fin cfg0.N) : Holds (A0 m c) (A1 m c) (A2 m c) (A3 m c) (inAt m c t) (p80 t) where
  codes a k := by
    show (V m c main_v0 : S81920x3072.Idx → EReal) (((cfg0.win 0).blk t).view.emb (ix2 a k)) = _
    rw [at_0, V_v0, row_at]
    exact congrArg₂ (fun x y => A0 m c (ix3 x y k)) (Fin.ext (by show (t.val * 1024 + a.val) / 16384 = t.val / 16; omega))
      (Fin.ext (by show (t.val * 1024 + a.val) % 16384 = t.val % 16 * 1024 + a.val; omega))
  rs a g := by
    show (V m c main_arg1 : S5x16384x24.Idx → EReal) (((cfg0.win 1).blk t).view.emb (ix3 0 a g)) = _
    rw [at_1, V_main_arg1]
  dy a k := by
    show (V m c main_v1 : S81920x1024.Idx → EReal) (((cfg0.win 2).blk t).view.emb (ix2 a k)) = _
    rw [at_2, V_v1, row_at']
    exact congrArg₂ (fun x y => A2 m c (ix3 x y k)) (Fin.ext (by show (t.val * 1024 + a.val) / 16384 = t.val / 16; omega))
      (Fin.ext (by show (t.val * 1024 + a.val) % 16384 = t.val % 16 * 1024 + a.val; omega))
  dys n j := by
    show (V m c main_arg3 : S5x128x1024.Idx → EReal) (((cfg0.win 3).blk t).view.emb (ix3 0 n j)) = _
    rw [at_3, V_main_arg3]

end Cert.KernelIdeal.Read

end
-- ==== Proof.Value.Arrays.lean ====
/- The kernel's three arrays at the end of its run. -/
module

public import proofs.«01_k».proof.Proof.Value.Blocks
public import Idealize.ShloMosaic.Lib.Pipeline.Value

@[expose] public section

set_option maxRecDepth 16384

noncomputable section

namespace Cert.KernelIdeal.Read

open Cert.KernelIdeal Cert.KernelIdeal.Gen Cert.KernelIdeal.Steps Cert.Quant
open Idealize.ShloMosaic Idealize.ShloMosaic.TcCoe
open Idealize.ShloMosaic.Pipeline (Dat)

variable (m : (ℓ : Loc nD τ sig) → Buf (Elt Ideal) ℓ) (c : Dev nD)

/-! ## The gradient -/

/-- Token `s`'s share, at this run's arguments. -/
abbrev shareOf (i : Fin 3072) (j : Fin 1024) (s : ℕ) : EReal := termS (A0 m c) (A1 m c) (A2 m c) (A3 m c) i j s

theorem p80_pt {n : ℕ} (hn : n < 80) : p80 (pt n) = ⟨n, hn⟩ := Fin.ext (Nat.mod_eq_of_lt hn)

theorem lt_N {n : ℕ} (hn : n < 80) : n < cfg0.N := Nat.lt_of_lt_of_eq hn N_0.symm

/-- A half added to a sum over the tokens before it is the sum over the tokens to its end. -/
theorem add_half {O : S3072x1024.Idx → EReal} {n : ℕ} (hn : n < 80) (p : Bool) (i : Fin 3072) (j : Fin 1024)
    (hO : O (ix2 i j) = A4 m c (ix2 i j) + ∑ s ∈ Finset.range (n * 1024 + half p * 128), shareOf m c i j s) :
    dotAll (F := Ideal) O (XX (inAt m c (pt n)) p) (YY (inAt m c (pt n)) p) (ix2 i j)
      = A4 m c (ix2 i j) + ∑ s ∈ Finset.range (n * 1024 + half p * 128 + 512), shareOf m c i j s := by
  have H : Holds (A0 m c) (A1 m c) (A2 m c) (A3 m c) (inAt m c (pt n)) ⟨n, hn⟩ := p80_pt hn ▸ holds m c (pt n)
  rw [dotAll_at H p O i j, hO, Finset.sum_range_add _ (n * 1024 + half p * 128) 512, ← add_assoc]

theorem gradTo_at (i : Fin 3072) (j : Fin 1024) : ∀ n, n < 80 →
    gradTo m c n (ix2 i j) = A4 m c (ix2 i j) + ∑ s ∈ Finset.range (n * 1024 + half false * 128 + 512), shareOf m c i j s
  | 0, hn => add_half m c hn false i j (by
      rw [show (V m c main_arg4 : S3072x1024.Idx → EReal) = A4 m c from V_main_arg4 m c]
      simp [half])
  | n + 1, hn => add_half m c hn false i j ((add_half m c (by omega : n < 80) true i j (gradTo_at i j n (by omega))).trans (by
      rw [show n * 1024 + half true * 128 + 512 = (n + 1) * 1024 + half false * 128 by simp only [half]; omega]))

theorem gradAt_last : gradAt m c 79 = gradS (A0 m c) (A1 m c) (A2 m c) (A3 m c) (A4 m c) := by
  funext y
  obtain ⟨i, j, rfl⟩ : ∃ (i : Fin 3072) (j : Fin 1024), y = ix2 i j := ⟨y 0, y 1, eq_ix2 y⟩
  unfold gradAt
  rw [if_pos rfl]
  exact add_half m c (by decide : 79 < 80) true i j (gradTo_at m c i j 79 (by decide))

/-! ## The arrays -/

theorem final_4 : (dats m 0 c).arrAt 4 cfg0.N = gradS (A0 m c) (A1 m c) (A2 m c) (A3 m c) (A4 m c) :=
  (dats m 0 c).arrAt_eq_of_cover 4 (gradS (A0 m c) (A1 m c) (A2 m c) (A3 m c) (A4 m c))
    (fun t ht => by
      have h79 : t.val = 79 := by have h := (flush0_4 t).1 ht; have := (p80 t).isLt; change t.val < 80 at this; omega
      show (cfg0.win 4).cut (grid0.coords t) ((dats m 0 c).after 4 t) = _
      rw [after_4, h79, gradAt_last]
      funext y
      show gradS (A0 m c) (A1 m c) (A2 m c) (A3 m c) (A4 m c) y = gradS (A0 m c) (A1 m c) (A2 m c) (A3 m c) (A4 m c) (((cfg0.win 4).blk t).view.emb y)
      rw [at_4])
    (fun y => ⟨⟨79, lt_N (by decide)⟩, (flush0_4 _).2 rfl, by
      have h := ((cfg0.win 4).blk (⟨79, lt_N (by decide)⟩ : Fin cfg0.N)).view.emb_mem_set y; rwa [at_4] at h⟩)

theorem final_5 : (dats m 0 c).arrAt 5 cfg0.N = codesS (A0 m c) (A1 m c) :=
  (dats m 0 c).arrAt_eq_of_cover 5 (codesS (A0 m c) (A1 m c))
    (fun t _ => by
      show (cfg0.win 5).cut (grid0.coords t) ((dats m 0 c).after 5 t) = _
      rw [after_5]
      funext y
      obtain ⟨a, k, rfl⟩ : ∃ (a : Fin 1024) (k : Fin 3072), y = ix2 a k := ⟨y 0, y 1, eq_ix2 y⟩
      show XT (inAt m c t) (ix2 a k) = codesS (A0 m c) (A1 m c) (((cfg0.win 5).blk t).view.emb (ix2 a k))
      rw [at_5, XT_at (holds m c t)]
      rfl)
    (fun y => by
      obtain ⟨s, k, rfl⟩ : ∃ (s : Fin 81920) (k : Fin 3072), y = ix2 s k := ⟨y 0, y 1, eq_ix2 y⟩
      have hl : s.val / 1024 < cfg0.N := lt_N (by omega)
      refine ⟨⟨s.val / 1024, hl⟩, flush0_5 _, ?_⟩
      have h := ((cfg0.win 5).blk (⟨s.val / 1024, hl⟩ : Fin cfg0.N)).view.emb_mem_set (ix2 ⟨s.val % 1024, Nat.mod_lt _ (by decide)⟩ k)
      rw [at_5] at h
      have e : (⟨s.val / 1024 * 1024 + s.val % 1024, by omega⟩ : Fin 81920) = s := Fin.ext (by show s.val / 1024 * 1024 + s.val % 1024 = s.val; omega)
      change ix2 (⟨s.val / 1024 * 1024 + s.val % 1024, by omega⟩ : Fin 81920) k ∈ _ at h
      rw [e] at h
      exact h)

theorem final_6 : (dats m 0 c).arrAt 6 cfg0.N = scalesS (A0 m c) (A1 m c) :=
  (dats m 0 c).arrAt_eq_of_cover 6 (scalesS (A0 m c) (A1 m c))
    (fun t _ => by
      show (cfg0.win 6).cut (grid0.coords t) ((dats m 0 c).after 6 t) = _
      rw [after_6]
      funext y
      obtain ⟨n, k, rfl⟩ : ∃ (n : Fin 8) (k : Fin 3072), y = ix3 0 n k :=
        ⟨y 1, y 2, (eq_ix3 y).trans (congrArg (fun z : Fin 1 => ix3 z (y 1) (y 2)) (Subsingleton.elim (α := Fin 1) _ _))⟩
      show XS (inAt m c t) (ix3 0 n k) = scalesS (A0 m c) (A1 m c) (((cfg0.win 6).blk t).view.emb (ix3 0 n k))
      rw [at_6, XS_at (holds m c t)]
      rfl)
    (fun y => by
      obtain ⟨B, n, k, rfl⟩ : ∃ (B : Fin 5) (n : Fin 128) (k : Fin 3072), y = ix3 B n k := ⟨y 0, y 1, y 2, eq_ix3 y⟩
      have hl : B.val * 16 + n.val / 8 < cfg0.N := lt_N (by omega)
      refine ⟨⟨B.val * 16 + n.val / 8, hl⟩, flush0_6 _, ?_⟩
      have h := ((cfg0.win 6).blk (⟨B.val * 16 + n.val / 8, hl⟩ : Fin cfg0.N)).view.emb_mem_set (ix3 0 ⟨n.val % 8, Nat.mod_lt _ (by decide)⟩ k)
      rw [at_6] at h
      have e0 : (⟨(B.val * 16 + n.val / 8) / 16, by omega⟩ : Fin 5) = B := Fin.ext (by show (B.val * 16 + n.val / 8) / 16 = B.val; omega)
      have e1 : (⟨(B.val * 16 + n.val / 8) % 16 * 8 + n.val % 8, by omega⟩ : Fin 128) = n := Fin.ext (by show (B.val * 16 + n.val / 8) % 16 * 8 + n.val % 8 = n.val; omega)
      change ix3 (⟨(B.val * 16 + n.val / 8) / 16, by omega⟩ : Fin 5) (⟨(B.val * 16 + n.val / 8) % 16 * 8 + n.val % 8, by omega⟩ : Fin 128) k ∈ _ at h
      rw [e0, e1] at h
      exact h)

end Cert.KernelIdeal.Read

end
-- ==== Proof.Value.RefRead.lean ====
/- The reference's payloads, entry by entry. -/
module

public import proofs.«01_k».proof.Proof.Gen.ReferenceIdeal.Skeleton
public import proofs.«01_k».proof.Proof.Value.Spec
public import Idealize.ShloMosaic.Lib.Pointwise

@[expose] public section

set_option maxRecDepth 16384

noncomputable section

namespace Cert.ReferenceIdeal.Read

open Cert.ReferenceIdeal Cert.ReferenceIdeal.Gen Cert.Quant
open Idealize.ShloMosaic

variable (a0 : Vec Ideal S5x16384x3072 .fp8e4m3) (a1 : Vec Ideal S5x16384x24 .f32) (a2 : Vec Ideal S5x16384x1024 .fp8e5m2) (a3 : Vec Ideal S5x128x1024 .f32) (a4 : Vec Ideal S3072x1024 .f32)

theorem pay2_at (B : Fin 5) (n : Fin 128) (r : Fin 128) (k : Fin 3072) : k0_pay2 a0 a1 (ix4 B n r k) = xS a0 a1 B n r k := by
  unfold xS
  pointwise [k0_pay2]

/-- A maximum over the tokens of a block, -/
theorem max_at (v : FVec Ideal S5x128x128x3072 .f32) (B : Fin 5) (n : Fin 128) (k : Fin 3072) :
    multiReduction .maximumf [2] S5x128x3072 v 0xFF800000#32 reduces_S5x128x128x3072_S5x128x3072 (.inl rfl) rfl (ix3 B n k) = Finset.univ.fold max ⊥ fun r : Fin 128 => v (ix4 B n r k) := by
  rw [← show Ideal.ofBits .f32 0xFF800000#32 = ⊥ by simp [Ideal.ofBits, Ideal.ieee]]
  pointwise

/-- a minimum over the ladder, -/
theorem min_at (v : IVec S254x5x128x3072 32) (B : Fin 5) (n : Fin 128) (k : Fin 3072) :
    multiReductionI .minsi [0] S5x128x3072 v 2147483647#32 reduces_S254x5x128x3072_S5x128x3072 rfl (ix3 B n k) = Finset.univ.fold IntOp.minsi 2147483647#32 fun q : Fin 254 => v (ix4 q B n k) := by
  pointwise

/-- what is compared with its rungs, -/
theorem lad_at (t : FVec Ideal S5x128x3072 .f32) (q : Fin 254) (B : Fin 5) (n : Fin 128) (k : Fin 3072) :
    (broadcastTo S254x5x128x3072 (shapeCast S1x5x128x3072 t shapeCasts_S5x128x3072_S1x5x128x3072) broadcasts_S1x5x128x3072_S254x5x128x3072) (ix4 q B n k) = t (ix3 B n k) := by
  pointwise

/-- and the rungs' numbers. -/
theorem io_at (q : Fin 254) (B : Fin 5) (n : Fin 128) (k : Fin 3072) :
    iota .tc S254x5x128x3072 32 [0] iota_S254x5x128x3072_d0_w32 (ix4 q B n k) = BitVec.ofNat 32 q.val := by
  pointwise

theorem by448_at (y : FVec Ideal S5x128x3072 .f32) (B : Fin 5) (n : Fin 128) (k : Fin 3072) :
    mulf y (broadcast S5x128x3072 (Scalar.ofBits .f32 0x3B124925#32)) (ix3 B n k) = y (ix3 B n k) * Ideal.ofBits .f32 0x3B124925#32 := rfl

theorem abs_at (x : FVec Ideal S5x128x128x3072 .f32) (B : Fin 5) (n r : Fin 128) (k : Fin 3072) : absf x (ix4 B n r k) = max (x (ix4 B n r k)) (-x (ix4 B n r k)) := rfl

theorem pay3_at (B : Fin 5) (n : Fin 128) (k : Fin 3072) : k0_pay3 a0 a1 (ix3 B n k) = tS a0 a1 B n k := by
  unfold k0_pay3
  refine (by448_at _ B n k).trans ?_
  unfold tS
  rw [max_at]
  simp only [abs_at, pay2_at]

/-- The ladder over any array. -/
theorem ladder_at (t : FVec Ideal S5x128x3072 .f32) (B : Fin 5) (n : Fin 128) (k : Fin 3072) :
    multiReductionI .minsi [0] S5x128x3072
      (select (cmpf .olt (broadcastTo S254x5x128x3072 (shapeCast S1x5x128x3072 t shapeCasts_S5x128x3072_S1x5x128x3072) broadcasts_S1x5x128x3072_S254x5x128x3072)
          (exp2 (sitofp .f32 (subi (iota .tc S254x5x128x3072 32 [0] iota_S254x5x128x3072_d0_w32) (broadcast S254x5x128x3072 126#32)))))
        (subi (iota .tc S254x5x128x3072 32 [0] iota_S254x5x128x3072_d0_w32) (broadcast S254x5x128x3072 126#32)) (broadcast S254x5x128x3072 128#32))
      2147483647#32 reduces_S254x5x128x3072_S5x128x3072 rfl (ix3 B n k)
      = Finset.univ.fold IntOp.minsi 2147483647#32 fun q : Fin 254 =>
          Scalar.select (Ideal.cmp .olt (t (ix3 B n k)) (pow2 (BitVec.ofNat 32 q.val - 126#32))) (BitVec.ofNat 32 q.val - 126#32) 128#32 := by
  refine (min_at _ B n k).trans ?_
  refine congrArg (fun f => Finset.univ.fold IntOp.minsi 2147483647#32 f) (funext fun q => ?_)
  rw [← lad_at t q B n k, ← io_at q B n k]
  rfl

theorem exp_at (t : FVec Ideal S5x128x3072 .f32) (B : Fin 5) (n : Fin 128) (k : Fin 3072) :
    select (cmpf .olt t (broadcast S5x128x3072 (Scalar.ofBits .f32 0x00800000#32))) (broadcast S5x128x3072 0#32)
      (multiReductionI .minsi [0] S5x128x3072
        (select (cmpf .olt (broadcastTo S254x5x128x3072 (shapeCast S1x5x128x3072 t shapeCasts_S5x128x3072_S1x5x128x3072) broadcasts_S1x5x128x3072_S254x5x128x3072)
            (exp2 (sitofp .f32 (subi (iota .tc S254x5x128x3072 32 [0] iota_S254x5x128x3072_d0_w32) (broadcast S254x5x128x3072 126#32)))))
          (subi (iota .tc S254x5x128x3072 32 [0] iota_S254x5x128x3072_d0_w32) (broadcast S254x5x128x3072 126#32)) (broadcast S254x5x128x3072 128#32))
        2147483647#32 reduces_S254x5x128x3072_S5x128x3072 rfl) (ix3 B n k) = expR (t (ix3 B n k)) :=
  congrArg (Scalar.select (Ideal.cmp .olt (t (ix3 B n k)) (Ideal.ofBits .f32 0x00800000#32)) 0#32) (ladder_at t B n k)

theorem pay4_at (B : Fin 5) (n : Fin 128) (k : Fin 3072) : k0_pay4 a0 a1 (ix3 B n k) = expR (tS a0 a1 B n k) := by
  unfold k0_pay4
  exact (exp_at (k0_pay3 a0 a1) B n k).trans (congrArg expR (pay3_at a0 a1 B n k))

theorem scale_at (t : FVec Ideal S5x128x3072 .f32) (e : IVec S5x128x3072 32) (B : Fin 5) (n : Fin 128) (k : Fin 3072) :
    (select (cmpf .olt t (broadcast S5x128x3072 (Scalar.ofBits .f32 0x7F800000#32)))
      (select (cmpi .slt e (broadcast S5x128x3072 4294967170#32)) (broadcast S5x128x3072 (Scalar.ofBits .f32 0x00000000#32))
        (select (cmpi .sgt e (broadcast S5x128x3072 127#32)) (broadcast S5x128x3072 (Scalar.ofBits .f32 0x7F800000#32)) (exp2 (sitofp .f32 e))))
      (broadcast S5x128x3072 (Scalar.ofBits .f32 0x00000000#32)) : FVec Ideal S5x128x3072 .f32) (ix3 B n k)
      = Scalar.select (Ideal.cmp .olt (t (ix3 B n k)) (Ideal.ofBits .f32 0x7F800000#32)) (powR (e (ix3 B n k))) 0 := by
  unfold powR
  rw [← Ideal.ofBits_zero_f32]
  rfl

theorem pay5_at (B : Fin 5) (n : Fin 128) (k : Fin 3072) : k0_pay5 a0 a1 (ix3 B n k) = scaleS a0 a1 B n k := by
  unfold k0_pay5
  refine (scale_at (k0_pay3 a0 a1) (k0_pay4 a0 a1) B n k).trans ?_
  rw [pay3_at, pay4_at]
  exact Eq.refl _

theorem pay6_at (v7 : FVec Ideal S5x128x128x3072 .f32) (v26 : IVec S5x128x3072 32) (B : Fin 5) (n : Fin 128) (r : Fin 128) (k : Fin 3072) :
    k0_pay6 v7 v26 (ix4 B n r k)
      = min (Ideal.ofBits .f32 0x43E00000#32) (max (Ideal.ofBits .f32 0xC3E00000#32) (v7 (ix4 B n r k) * powR (0#32 - v26 (ix3 B n k)))) := by
  have e : ∀ v : FVec Ideal S5x128x3072 .f32, (broadcastTo S5x128x128x3072 (shapeCast S5x128x1x3072 v shapeCasts_S5x128x3072_S5x128x1x3072) broadcasts_S5x128x1x3072_S5x128x128x3072) (ix4 B n r k)
      = v (ix3 B n k) := fun v => by pointwise
  unfold powR
  rw [← Ideal.ofBits_zero_f32]
  refine congrArg (fun z => min (Ideal.ofBits .f32 0x43E00000#32) (max (Ideal.ofBits .f32 0xC3E00000#32) (v7 (ix4 B n r k) * z))) ((e _).trans ?_)
  rfl

/-- The codes. -/
theorem code_at (B : Fin 5) (n : Fin 128) (r : Fin 128) (k : Fin 3072) : k0_pay6 (k0_pay2 a0 a1) (k0_pay4 a0 a1) (ix4 B n r k) = codeS a0 a1 B n r k := by
  rw [pay6_at, pay2_at, pay4_at]; rfl

theorem seq_of {s : ℕ} (h : s < 81920) : (⟨s / 16384, by omega⟩ : Fin 5) = seqOf s := Fin.ext (by show s / 16384 = s / 16384 % 5; omega)

theorem codes_eq : k0_pay7 (k0_pay2 a0 a1) (k0_pay4 a0 a1) = codesS a0 a1 := by
  funext y
  obtain ⟨s, k, rfl⟩ : ∃ (s : Fin 81920) (k : Fin 3072), y = ix2 s k := ⟨y 0, y 1, eq_ix2 y⟩
  have e : k0_pay7 (k0_pay2 a0 a1) (k0_pay4 a0 a1) (ix2 s k) = k0_pay6 (k0_pay2 a0 a1) (k0_pay4 a0 a1) (ix4 ⟨s.val / 16384, by omega⟩ (blkOf s.val) (plcOf s.val) k) := by
    pointwise [k0_pay7]
  rw [e, code_at, seq_of s.isLt]
  rfl

theorem scales_eq : k0_pay5 a0 a1 = scalesS a0 a1 := by
  funext y
  obtain ⟨B, n, k, rfl⟩ : ∃ (B : Fin 5) (n : Fin 128) (k : Fin 3072), y = ix3 B n k := ⟨y 0, y 1, y 2, eq_ix3 y⟩
  exact pay5_at a0 a1 B n k

/-! ## The gradient -/

/-- The product sums over the tokens, -/
theorem dot_at (vx : FVec Ideal S81920x3072 .bf16) (vy : FVec Ideal S81920x1024 .bf16) (i : Fin 3072) (j : Fin 1024) :
    matmul dot_S81920x3072_S81920x1024_S3072x1024_0_0_1_1_n_n none vx vy (constant S3072x1024 .f32 0x00000000#32) (ix2 i j) = ∑ s : Fin 81920, vx (ix2 s i) * vy (ix2 s j) := by
  pointwise

/-- which its operands hold in one row, -/
theorem xx_at (v : FVec Ideal S5x128x128x3072 .bf16) (s : Fin 81920) (k : Fin 3072) :
    shapeCast S81920x3072 v shapeCasts_S5x128x128x3072_S81920x3072 (ix2 s k) = v (ix4 ⟨s.val / 16384, by omega⟩ (blkOf s.val) (plcOf s.val) k) := by
  pointwise
theorem yy_at (v : FVec Ideal S5x128x128x1024 .bf16) (s : Fin 81920) (k : Fin 1024) :
    shapeCast S81920x1024 v shapeCasts_S5x128x128x1024_S81920x1024 (ix2 s k) = v (ix4 ⟨s.val / 16384, by omega⟩ (blkOf s.val) (plcOf s.val) k) := by
  pointwise

/-- each requantised `x`, or `dy`. -/
theorem ws_at (v : FVec Ideal S5x128x128x3072 .fp8e4m3) (w : FVec Ideal S5x128x3072 .f32) (B : Fin 5) (n : Fin 128) (r : Fin 128) (k : Fin 3072) :
    mulf (extf .bf16 v bitsLt_fp8e4m3_bf16) (broadcastTo S5x128x128x3072 (truncf .bf16 (shapeCast S5x128x1x3072 w shapeCasts_S5x128x3072_S5x128x1x3072) bitsLt_bf16_f32) broadcasts_S5x128x1x3072_S5x128x128x3072) (ix4 B n r k)
      = v (ix4 B n r k) * w (ix3 B n k) := by
  pointwise
theorem dys_at (u : FVec Ideal S5x16384x1024 .fp8e5m2) (w : FVec Ideal S5x128x1024 .f32) (B : Fin 5) (n : Fin 128) (r : Fin 128) (k : Fin 1024) :
    mulf (F := Ideal) (extf .bf16 (shapeCast S5x128x128x1024 u shapeCasts_S5x16384x1024_S5x128x128x1024) bitsLt_fp8e5m2_bf16)
      (broadcastTo S5x128x128x1024 (truncf .bf16 (shapeCast S5x128x1x1024 w shapeCasts_S5x128x1024_S5x128x1x1024) bitsLt_bf16_f32) broadcasts_S5x128x1x1024_S5x128x128x1024) (ix4 B n r k)
      = u (ix3 B (tokOf n r) k) * w (ix3 B n k) := by
  pointwise

theorem pay8_at (i : Fin 3072) (j : Fin 1024) :
    k0_pay8 (k0_pay2 a0 a1) (k0_pay4 a0 a1) (k0_pay5 a0 a1) a2 a3 (ix2 i j) = ∑ s : Fin 81920, termS a0 a1 a2 a3 i j s.val := by
  unfold k0_pay8
  refine (dot_at _ _ i j).trans (Finset.sum_congr rfl fun s _ => ?_)
  rw [xx_at, yy_at]
  refine (congrArg₂ (· * ·) (ws_at _ _ _ _ _ _) (dys_at a2 a3 _ _ _ _)).trans ?_
  rw [code_at, pay5_at, seq_of s.isLt]
  rfl

theorem grad_eq : k0_pay1 (k0_pay8 (k0_pay2 a0 a1) (k0_pay4 a0 a1) (k0_pay5 a0 a1) a2 a3) a4 = gradS a0 a1 a2 a3 a4 := by
  funext y
  obtain ⟨i, j, rfl⟩ : ∃ (i : Fin 3072) (j : Fin 1024), y = ix2 i j := ⟨y 0, y 1, eq_ix2 y⟩
  refine (congrArg (a4 (ix2 i j) + ·) (pay8_at a0 a1 a2 a3 i j)).trans ?_
  unfold gradS
  rw [Finset.sum_range]
  rfl

end Cert.ReferenceIdeal.Read

end
-- ==== Proof.Value.RefRun.lean ====
/- The reference's arrays at the end of its run: the one point's payloads of the whole arguments. -/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S5x16384x3072.Idx) : ((cfg0.win 0).blk t).view.emb j = j := by
  obtain ⟨e0, e1, e2⟩ := idx_zero0 t
  funext a; apply Fin.ext
  match a with
  | ⟨0, _⟩ => show win0_0.index t (0 : Fin 3) * 5 + 1 * (j 0).val = (j 0).val; omega
  | ⟨1, _⟩ => show win0_0.index t (1 : Fin 3) * 16384 + 1 * (j 1).val = (j 1).val; omega
  | ⟨2, _⟩ => show win0_0.index t (2 : Fin 3) * 3072 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S5x16384x24.Idx) : ((cfg0.win 1).blk t).view.emb j = j := by
  obtain ⟨e0, e1, e2⟩ := idx_zero1 t
  funext a; apply Fin.ext
  match a with
  | ⟨0, _⟩ => show win0_1.index t (0 : Fin 3) * 5 + 1 * (j 0).val = (j 0).val; omega
  | ⟨1, _⟩ => show win0_1.index t (1 : Fin 3) * 16384 + 1 * (j 1).val = (j 1).val; omega
  | ⟨2, _⟩ => show win0_1.index t (2 : Fin 3) * 24 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S5x16384x1024.Idx) : ((cfg0.win 2).blk t).view.emb j = j := by
  obtain ⟨e0, e1, e2⟩ := idx_zero2 t
  funext a; apply Fin.ext
  match a with
  | ⟨0, _⟩ => show win0_2.index t (0 : Fin 3) * 5 + 1 * (j 0).val = (j 0).val; omega
  | ⟨1, _⟩ => show win0_2.index t (1 : Fin 3) * 16384 + 1 * (j 1).val = (j 1).val; omega
  | ⟨2, _⟩ => show win0_2.index t (2 : Fin 3) * 1024 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S5x128x1024.Idx) : ((cfg0.win 3).blk t).view.emb j = j := by
  obtain ⟨e0, e1, e2⟩ := idx_zero3 t
  funext a; apply Fin.ext
  match a with
  | ⟨0, _⟩ => show win0_3.index t (0 : Fin 3) * 5 + 1 * (j 0).val = (j 0).val; omega
  | ⟨1, _⟩ => show win0_3.index t (1 : Fin 3) * 128 + 1 * (j 1).val = (j 1).val; omega
  | ⟨2, _⟩ => show win0_3.index t (2 : Fin 3) * 1024 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S3072x1024.Idx) : ((cfg0.win 4).blk t).view.emb j = j := by
  obtain ⟨e0, e1⟩ := idx_zero4 t
  funext a; apply Fin.ext
  match a with
  | ⟨0, _⟩ => show win0_4.index t (0 : Fin 2) * 3072 + 1 * (j 0).val = (j 0).val; omega
  | ⟨1, _⟩ => show win0_4.index t (1 : Fin 2) * 1024 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S3072x1024.Idx) : ((cfg0.win 5).blk t).view.emb j = j := by
  obtain ⟨e0, e1⟩ := idx_zero5 t
  funext a; apply Fin.ext
  match a with
  | ⟨0, _⟩ => show win0_5.index t (0 : Fin 2) * 3072 + 1 * (j 0).val = (j 0).val; omega
  | ⟨1, _⟩ => show win0_5.index t (1 : Fin 2) * 1024 + 1 * (j 1).val = (j 1).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S81920x3072.Idx) : ((cfg0.win 6).blk t).view.emb j = j := by
  obtain ⟨e0, e1⟩ := idx_zero6 t
  funext a; apply Fin.ext
  match a with
  | ⟨0, _⟩ => show win0_6.index t (0 : Fin 2) * 81920 + 1 * (j 0).val = (j 0).val; omega
  | ⟨1, _⟩ => show win0_6.index t (1 : Fin 2) * 3072 + 1 * (j 1).val = (j 1).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S5x128x3072.Idx) : ((cfg0.win 7).blk t).view.emb j = j := by
  obtain ⟨e0, e1, e2⟩ := idx_zero7 t
  funext a; apply Fin.ext
  match a with
  | ⟨0, _⟩ => show win0_7.index t (0 : Fin 3) * 5 + 1 * (j 0).val = (j 0).val; omega
  | ⟨1, _⟩ => show win0_7.index t (1 : Fin 3) * 128 + 1 * (j 1).val = (j 1).val; omega
  | ⟨2, _⟩ => show win0_7.index t (2 : Fin 3) * 3072 + 1 * (j 2).val = (j 2).val; omega

/-! ### Output window 5: the array after the run -/

/-- What the window's array ends holding: `out0_5` applied to the argument arrays in place of the input blocks (a value that the
    frame states apart, `kK_payN a…`, keeps its loads inside its own definition). -/
abbrev G5 (a0 : Vec F S5x16384x3072 .fp8e4m3) (a1 : Vec F S5x16384x24 .f32) (a2 : Vec F S5x16384x1024 .fp8e5m2) (a3 : Vec F S5x128x1024 .f32) (a4 : Vec F S3072x1024 .f32) : Vec F S3072x1024 .f32 :=
  k0_pay1 (k0_pay8 (k0_pay9 a0 a1 a2 a3 a4) (k0_pay10 a0 a1 a2 a3 a4) (k0_pay11 a0 a1 a2 a3 a4) a2 a3) a4

/-- A load of the whole of a block reads the block, and the one store through the whole rectangle leaves its payload. -/
theorem out5_eq (a0 : Vec F S5x16384x3072 .fp8e4m3) (a1 : Vec F S5x16384x24 .f32) (a2 : Vec F S5x16384x1024 .fp8e5m2) (a3 : Vec F S5x128x1024 .f32) (a4 : Vec F S3072x1024 .f32) : out0_5 (F := F) a0 a1 a2 a3 a4 = G5 a0 a1 a2 a3 a4 := by
  unfold out0_5
  rw [View.canon_unit_zero hz5, View.ld_unit_zero (S := S5x16384x1024) hz2 _ a2, View.ld_unit_zero (S := S5x128x1024) hz3 _ a3, View.ld_unit_zero (S := S3072x1024) hz4 _ a4]

/-- Cutting the point's block out of `X` and reading `X` through the block's view give the same. -/
theorem cut5_eq (t : Fin cfg0.N) (X : Vec F S3072x1024 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _

/-- Every index of the array is in the point's block. -/
theorem covered5 (i : S3072x1024.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4)) (fun t _ => flushed5_eq m c t) covered5).trans (by rw [V_main_arg0, V_main_arg1, V_main_arg2, V_main_arg3, V_main_arg4])

/-! ### Output window 6: the array after the run -/

/-- What the window's array ends holding: `out0_6` applied to the argument arrays in place of the input blocks (a value that the
    frame states apart, `kK_payN a…`, keeps its loads inside its own definition). -/
abbrev G6 (a0 : Vec F S5x16384x3072 .fp8e4m3) (a1 : Vec F S5x16384x24 .f32) (a2 : Vec F S5x16384x1024 .fp8e5m2) (a3 : Vec F S5x128x1024 .f32) (a4 : Vec F S3072x1024 .f32) : Vec F S81920x3072 .fp8e4m3 :=
  k0_pay7 (k0_pay9 a0 a1 a2 a3 a4) (k0_pay10 a0 a1 a2 a3 a4)

/-- The one store through the whole rectangle leaves its payload. -/
theorem out6_eq (a0 : Vec F S5x16384x3072 .fp8e4m3) (a1 : Vec F S5x16384x24 .f32) (a2 : Vec F S5x16384x1024 .fp8e5m2) (a3 : Vec F S5x128x1024 .f32) (a4 : Vec F S3072x1024 .f32) : out0_6 (F := F) a0 a1 a2 a3 a4 = G6 a0 a1 a2 a3 a4 := by
  unfold out0_6
  rw [View.canon_unit_zero hz6]

/-- Cutting the point's block out of `X` and reading `X` through the block's view give the same. -/
theorem cut6_eq (t : Fin cfg0.N) (X : Vec F S81920x3072 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4)) := by
  show (cfg0.win 6).cut (grid0.coords t) ((dats m 0 c).after 6 t) = _
  rw [after0_6, out6_eq, iblk0_eq, iblk1_eq, iblk2_eq, iblk3_eq, iblk4_eq]
  exact cut6_eq t _

/-- Every index of the array is in the point's block. -/
theorem covered6 (i : S81920x3072.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4)) (fun t _ => flushed6_eq m c t) covered6).trans (by rw [V_main_arg0, V_main_arg1, V_main_arg2, V_main_arg3, V_main_arg4])

/-! ### Output window 7: the array after the run -/

/-- What the window's array ends holding: `out0_7` applied to the argument arrays in place of the input blocks (a value that the
    frame states apart, `kK_payN a…`, keeps its loads inside its own definition). -/
abbrev G7 (a0 : Vec F S5x16384x3072 .fp8e4m3) (a1 : Vec F S5x16384x24 .f32) (a2 : Vec F S5x16384x1024 .fp8e5m2) (a3 : Vec F S5x128x1024 .f32) (a4 : Vec F S3072x1024 .f32) : Vec F S5x128x3072 .f32 :=
  k0_pay11 a0 a1 a2 a3 a4

/-- The one store through the whole rectangle leaves its payload. -/
theorem out7_eq (a0 : Vec F S5x16384x3072 .fp8e4m3) (a1 : Vec F S5x16384x24 .f32) (a2 : Vec F S5x16384x1024 .fp8e5m2) (a3 : Vec F S5x128x1024 .f32) (a4 : Vec F S3072x1024 .f32) : out0_7 (F := F) a0 a1 a2 a3 a4 = G7 a0 a1 a2 a3 a4 := by
  unfold out0_7
  rw [View.canon_unit_zero hz7]

/-- Cutting the point's block out of `X` and reading `X` through the block's view give the same. -/
theorem cut7_eq (t : Fin cfg0.N) (X : Vec F S5x128x3072 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4)) := by
  show (cfg0.win 7).cut (grid0.coords t) ((dats m 0 c).after 7 t) = _
  rw [after0_7, out7_eq, iblk0_eq, iblk1_eq, iblk2_eq, iblk3_eq, iblk4_eq]
  exact cut7_eq t _

/-- Every index of the array is in the point's block. -/
theorem covered7 (i : S5x128x3072.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 7 (G7 (V m c main_arg0) (V m c main_arg1) (V m c main_arg2) (V m c main_arg3) (V m c main_arg4)) (fun t _ => flushed7_eq m c t) covered7).trans (by rw [V_main_arg0, V_main_arg1, V_main_arg2, V_main_arg3, V_main_arg4])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      kept_main_arg0 m r h c,
      kept_main_arg1 m r h c,
      kept_main_arg2 m r h c,
      kept_main_arg3 m r h c,
      kept_main_arg4 m r h c⟩)
    (run_main m ρ)

end Cert.ReferenceIdeal.Run

end
-- ==== Proof.Value.Equation.lean ====
/- The two programs' results are the same functions of the arguments. -/
module

public import proofs.«01_k».proof.Proof.Value.Arrays
public import proofs.«01_k».proof.Proof.Value.RefRead
public import proofs.«01_k».proof.Proof.Value.RefRun

@[expose] public section

set_option maxRecDepth 16384

noncomputable section

namespace Cert.ReferenceIdeal.Read

open Cert.ReferenceIdeal Cert.ReferenceIdeal.Gen Cert.ReferenceIdeal.Run Cert.Quant
open Idealize.ShloMosaic

variable (a0 : Vec Ideal S5x16384x3072 .fp8e4m3) (a1 : Vec Ideal S5x16384x24 .f32) (a2 : Vec Ideal S5x16384x1024 .fp8e5m2) (a3 : Vec Ideal S5x128x1024 .f32) (a4 : Vec Ideal S3072x1024 .f32)

theorem G5_eq : G5 a0 a1 a2 a3 a4 = gradS a0 a1 a2 a3 a4 := by
  rw [← grad_eq]
  unfold G5 k0_pay9 k0_pay10 k0_pay11
  simp only [View.ld_unit_zero (S := S5x16384x3072) hz0, View.ld_unit_zero (S := S5x16384x24) hz1]

theorem G6_eq : G6 a0 a1 a2 a3 a4 = codesS a0 a1 := by
  rw [← codes_eq]
  unfold G6 k0_pay9 k0_pay10
  simp only [View.ld_unit_zero (S := S5x16384x3072) hz0, View.ld_unit_zero (S := S5x16384x24) hz1]

theorem G7_eq : G7 a0 a1 a2 a3 a4 = scalesS a0 a1 := by
  rw [← scales_eq]
  unfold G7 k0_pay11
  simp only [View.ld_unit_zero (S := S5x16384x3072) hz0, View.ld_unit_zero (S := S5x16384x24) hz1]

end Cert.ReferenceIdeal.Read

namespace Cert.KernelIdeal.Read

open Cert.KernelIdeal Cert.KernelIdeal.Gen Cert.KernelIdeal.Steps Cert.Quant
open Idealize.ShloMosaic Idealize.ShloMosaic.TcCoe Idealize.SL.Sem

variable (m : (ℓ : Loc nD τ sig) → Buf (Elt Ideal) ℓ) (ρ : Dev nD → PrngReg)

/-- The kernel's run: each result at its function of the arguments, the arguments unchanged. -/
theorem run_eq : θ_run (defs (F := Ideal)) (onTc (τ := τ) (main (F := Ideal))) ⟨m, fun _ => 0, ρ⟩ (fun r => ∀ c : Dev nD,
      r.2.mem ((c.tc : Thread nD τ).loc main_v2_0) = gradS (A0 m c) (A1 m c) (A2 m c) (A3 m c) (A4 m c)
      ∧ r.2.mem ((c.tc : Thread nD τ).loc main_v2_1) = codesS (A0 m c) (A1 m c)
      ∧ r.2.mem ((c.tc : Thread nD τ).loc main_v2_2) = scalesS (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 4).trans (final_4 m c), ((h.1 c).1 5).trans (final_5 m c), ((h.1 c).1 6).trans (final_6 m c),
    args_of m r h.1 c⟩) (run_main m ρ)

end Cert.KernelIdeal.Read

end
-- ==== Proof.lean ====
/- The certificate: the three programs run, keep their arguments and leave every semaphore at zero, the idealized
   kernel is the deployed one's text, and over the extended reals it and the reference end with equal results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Frame
public import proofs.«01_k».proof.Proof.KernelIdeal.Frame
public import proofs.«01_k».proof.Proof.Value.Equation
public import Idealize.ShloMosaic.Adequacy
public import Idealize.ShloMosaic.Init

@[expose] public section

noncomputable section

namespace Cert.Proof

open Idealize.ShloMosaic Idealize.SL.Sem Cert.Kernel

open Cert.Quant in
/-- The three results are equal: either program's are the same functions of the arguments. -/
theorem algebraic : Cert.algebraic_KernelIdeal_ReferenceIdeal (hKernelIdeal := Cert.KernelIdeal.Gen.facts) (hReferenceIdeal := Cert.ReferenceIdeal.Gen.facts) :=
  fun m g m' g' _ h => by
  refine ⟨fun c => gradS (KernelIdeal.Read.A0 m c) (KernelIdeal.Read.A1 m c) (KernelIdeal.Read.A2 m c) (KernelIdeal.Read.A3 m c) (KernelIdeal.Read.A4 m c),
    fun c => codesS (KernelIdeal.Read.A0 m c) (KernelIdeal.Read.A1 m c), fun c => scalesS (KernelIdeal.Read.A0 m c) (KernelIdeal.Read.A1 m c),
    Cert.KernelIdeal.Read.run_eq m g, (θ_run _ _ _).mono (fun r hr c => ?_) (Cert.ReferenceIdeal.Run.run m' g')⟩
  obtain ⟨r0, r1, r2, k⟩ := hr c
  obtain ⟨e0, e1, e2, e3, e4⟩ := h c
  refine ⟨r0.trans ?_, r1.trans ?_, r2.trans ?_, k⟩
  · rw [e0, e1, e2, e3, e4]; exact Cert.ReferenceIdeal.Read.G5_eq _ _ _ _ _
  · rw [e0, e1, e2, e3, e4]; exact Cert.ReferenceIdeal.Read.G6_eq _ _ _ _ _
  · rw [e0, e1, e2, e3, e4]; exact Cert.ReferenceIdeal.Read.G7_eq _ _ _ _ _

theorem claim : Cert.Claim := ⟨Cert.Kernel.Gen.facts, Cert.KernelIdeal.Gen.facts, Cert.ReferenceIdeal.Gen.facts,
  fun m g _ => Cert.Kernel.Steps.frame m g, fun m g _ => Cert.KernelIdeal.Steps.frame m g,
  fun m g _ => Cert.ReferenceIdeal.Gen.frame m g, trivial, algebraic⟩

end Cert.Proof

end
